-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7))
      ∧ r.2.sem = fun _ => 0)

def preserves_Kernel_KernelIdeal : Prop :=
  IdealRules.named_const.Statement Cert.KernelIdeal.κ "qscale" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v28) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)) →
    ∃ (v0 : (c : Dev Cert.MixIdeal.nD) → Buf (Elt Ideal) ((c.tc : Thread Cert.MixIdeal.nD Cert.MixIdeal.τ).loc Cert.MixIdeal.main_v11)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v11) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v47) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMix : Cert.Mix.Facts) (hMixIdeal : Cert.MixIdeal.Facts) (hMixReferenceIdeal : Cert.MixReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Mix (hMix := hMix)
    ∧ quiescent_MixIdeal (hMixIdeal := hMixIdeal)
    ∧ quiescent_MixReferenceIdeal (hMixReferenceIdeal := hMixReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Mix_MixIdeal
    ∧ algebraic_MixIdeal_MixReferenceIdeal (hMixIdeal := hMixIdeal) (hMixReferenceIdeal := hMixReferenceIdeal)
-- ==== Pre_finite.lean ====
abbrev S8x4096x8x64 : Shape := ⟨4, ![8, 4096, 8, 64]⟩
abbrev S8x4096x2x64 : Shape := ⟨4, ![8, 4096, 2, 64]⟩
abbrev S8 : Shape := ⟨1, ![8]⟩
abbrev S_ : Shape := ⟨0, ![]⟩

class Facts : Prop where
  bcast_S_S8x4096x8x64 : S_.BroadcastsInDim S8x4096x8x64 (![] : Fin 0 → Fin S8x4096x8x64.rank)
  reducesTo_S8x4096x8x64_S_d0_1_2_3 : S8x4096x8x64.ReducesTo [0, 1, 2, 3] S_
  h_S_ : 0 < S_.numel
  bcast_S_S8x4096x2x64 : S_.BroadcastsInDim S8x4096x2x64 (![] : Fin 0 → Fin S8x4096x2x64.rank)
  reducesTo_S8x4096x2x64_S_d0_1_2_3 : S8x4096x2x64.ReducesTo [0, 1, 2, 3] S_
  bcast_S_S8 : S_.BroadcastsInDim S8 (![] : Fin 0 → Fin S8.rank)
  reducesTo_S8_S_d0 : S8.ReducesTo [0] S_

variable [Facts]

def fn {F : FTy → Type} [FloatOps F] (main_arg0 : FVec F S8x4096x8x64 .f32) (main_arg1 : FVec F S8x4096x2x64 .f32) (main_arg2 : FVec F S8x4096x2x64 .f32) (main_arg3 : FVec F S8 .f32) : IVec S_ 1 :=
  let main_v0 : FVec F S8x4096x8x64 .f32 := Host.absf main_arg0
  let main_cst : FVec F S_ .f32 := constant S_ .f32 0x7F800000#32
  let main_v1 : FVec F S8x4096x8x64 .f32 := broadcastInDim S8x4096x8x64 ![] bcast_S_S8x4096x8x64 main_cst
  let main_v2 : IVec S8x4096x8x64 1 := cmpf .olt main_v0 main_v1
  let main_c : IVec S_ 1 := constantI S_ 1 1#1
  let main_v3 : IVec S_ 1 := (fun x v => Host.reduce IntOp.andi x v reducesTo_S8x4096x8x64_S_d0_1_2_3 h_S_) main_v2 main_c
  let main_v4 : FVec F S8x4096x2x64 .f32 := Host.absf main_arg1
  let main_cst_0 : FVec F S_ .f32 := constant S_ .f32 0x7F800000#32
  let main_v5 : FVec F S8x4096x2x64 .f32 := broadcastInDim S8x4096x2x64 ![] bcast_S_S8x4096x2x64 main_cst_0
  let main_v6 : IVec S8x4096x2x64 1 := cmpf .olt main_v4 main_v5
  let main_c_1 : IVec S_ 1 := constantI S_ 1 1#1
  let main_v7 : IVec S_ 1 := (fun x v => Host.reduce IntOp.andi x v reducesTo_S8x4096x2x64_S_d0_1_2_3 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Kernel.lean ====
abbrev S8x4096x8x64 : Shape := ⟨4, ![8, 4096, 8, 64]⟩
abbrev S8x4096x2x64 : Shape := ⟨4, ![8, 4096, 2, 64]⟩
abbrev S8 : Shape := ⟨1, ![8]⟩
abbrev S32768x128 : Shape := ⟨2, ![32768, 128]⟩
abbrev S_ : Shape := ⟨0, ![]⟩
abbrev S32768x64 : Shape := ⟨2, ![32768, 64]⟩
abbrev S32768x512 : Shape := ⟨2, ![32768, 512]⟩
abbrev S128x32768 : Shape := ⟨2, ![128, 32768]⟩
abbrev S16x32768 : Shape := ⟨2, ![16, 32768]⟩
abbrev S64x32768 : Shape := ⟨2, ![64, 32768]⟩
abbrev S160x32768 : Shape := ⟨2, ![160, 32768]⟩
abbrev S8x4096x512 : Shape := ⟨3, ![8, 4096, 512]⟩
abbrev S384x128 : Shape := ⟨2, ![384, 128]⟩
abbrev S2x2x2 : Shape := ⟨3, ![2, 2, 2]⟩
abbrev S1x384x128 : Shape := ⟨3, ![1, 384, 128]⟩
abbrev S3x384x128 : Shape := ⟨3, ![3, 384, 128]⟩
abbrev S3x1x1x384x1x128 : Shape := ⟨6, ![3, 1, 1, 384, 1, 128]⟩
abbrev S1x2x2x1x2x1 : Shape := ⟨6, ![1, 2, 2, 1, 2, 1]⟩
abbrev S1x1x1x384x1x128 : Shape := ⟨6, ![1, 1, 1, 384, 1, 128]⟩
abbrev S1x2x2x384x2x128 : Shape := ⟨6, ![1, 2, 2, 384, 2, 128]⟩
abbrev S3x2x2x384x2x128 : Shape := ⟨6, ![3, 2, 2, 384, 2, 128]⟩
abbrev S12x384x256 : Shape := ⟨3, ![12, 384, 256]⟩
abbrev S1x8 : Shape := ⟨2, ![1, 8]⟩
abbrev S1x2x2x2 : Shape := ⟨4, ![1, 2, 2, 2]⟩
abbrev S1x4x1x2 : Shape := ⟨4, ![1, 4, 1, 2]⟩
abbrev S1x4x1x2x128 : Shape := ⟨5, ![1, 4, 1, 2, 128]⟩
abbrev S1x4x1x256 : Shape := ⟨4, ![1, 4, 1, 256]⟩
abbrev S1x4096x512 : Shape := ⟨3, ![1, 4096, 512]⟩
abbrev S1x128x512 : Shape := ⟨3, ![1, 128, 512]⟩
abbrev S160x4096 : Shape := ⟨2, ![160, 4096]⟩
abbrev S160x128 : Shape := ⟨2, ![160, 128]⟩
abbrev S6x384x256 : Shape := ⟨3, ![6, 384, 256]⟩
abbrev S1x128x128 : Shape := ⟨3, ![1, 128, 128]⟩
abbrev S128x128 : Shape := ⟨2, ![128, 128]⟩
abbrev S256x128 : Shape := ⟨2, ![256, 128]⟩
abbrev S1x256x128 : Shape := ⟨3, ![1, 256, 128]⟩
abbrev S384x256 : Shape := ⟨2, ![384, 256]⟩
abbrev S1x384x256 : Shape := ⟨3, ![1, 384, 256]⟩
abbrev S1x1x1x256 : Shape := ⟨4, ![1, 1, 1, 256]⟩
abbrev S1x256 : Shape := ⟨2, ![1, 256]⟩
abbrev S256 : Shape := ⟨1, ![256]⟩
abbrev S80x128 : Shape := ⟨2, ![80, 128]⟩
abbrev S80x256 : Shape := ⟨2, ![80, 256]⟩
abbrev S80x384 : Shape := ⟨2, ![80, 384]⟩
abbrev S64x256 : Shape := ⟨2, ![64, 256]⟩
abbrev S64x128 : Shape := ⟨2, ![64, 128]⟩
abbrev S512x128 : Shape := ⟨2, ![512, 128]⟩
abbrev S128x512 : Shape := ⟨2, ![128, 512]⟩

abbrev nBuf : Space → Nat
  | .hbm => 77
  | .vmem => 19
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x2x64, .f32⟩
  | .hbm, ⟨2, _⟩ => ⟨S8x4096x2x64, .f32⟩
  | .hbm, ⟨3, _⟩ => ⟨S8, .f32⟩
  | .hbm, ⟨4, _⟩ => ⟨S8, .f32⟩
  | .hbm, ⟨5, _⟩ => ⟨S32768x128, .f32⟩
  | .hbm, ⟨6, _⟩ => ⟨S32768x128, .i32⟩
  | .hbm, ⟨7, _⟩ => ⟨S_, .i32⟩
  | .hbm, ⟨8, _⟩ => ⟨S32768x128, .i32⟩
  | .hbm, ⟨9, _⟩ => ⟨S32768x128, .i1⟩
  | .hbm, ⟨10, _⟩ => ⟨S32768x64, .f32⟩
  | .hbm, ⟨11, _⟩ => ⟨S32768x64, .f32⟩
  | .hbm, ⟨12, _⟩ => ⟨S32768x128, .f32⟩
  | .hbm, ⟨13, _⟩ => ⟨S_, .f32⟩
  | .hbm, ⟨14, _⟩ => ⟨S32768x128, .f32⟩
  | .hbm, ⟨15, _⟩ => ⟨S32768x128, .f32⟩
  | .hbm, ⟨16, _⟩ => ⟨S32768x128, .f32⟩
  | .hbm, ⟨17, _⟩ => ⟨S32768x128, .f32⟩
  | .hbm, ⟨18, _⟩ => ⟨S32768x128, .f32⟩
  | .hbm, ⟨19, _⟩ => ⟨S32768x512, .f32⟩
  | .hbm, ⟨20, _⟩ => ⟨S32768x512, .bf16⟩
  | .hbm, ⟨21, _⟩ => ⟨S32768x128, .f32⟩
  | .hbm, ⟨22, _⟩ => ⟨S128x32768, .f32⟩
  | .hbm, ⟨23, _⟩ => ⟨S_, .f32⟩
  | .hbm, ⟨24, _⟩ => ⟨S16x32768, .f32⟩
  | .hbm, ⟨25, _⟩ => ⟨S64x32768, .f32⟩
  | .hbm, ⟨26, _⟩ => ⟨S64x32768, .f32⟩
  | .hbm, ⟨27, _⟩ => ⟨S160x32768, .f32⟩
  | .hbm, ⟨28, _⟩ => ⟨S160x32768, .bf16⟩
  | .hbm, ⟨29, _⟩ => ⟨S8x4096x512, .f32⟩
  | .hbm, ⟨30, _⟩ => ⟨S8x4096x512, .bf16⟩
  | .hbm, ⟨31, _⟩ => ⟨S384x128, .i32⟩
  | .hbm, ⟨32, _⟩ => ⟨S384x128, .i32⟩
  | .hbm, ⟨33, _⟩ => ⟨S_, .i32⟩
  | .hbm, ⟨34, _⟩ => ⟨S384x128, .i32⟩
  | .hbm, ⟨35, _⟩ => ⟨S384x128, .i32⟩
  | .hbm, ⟨36, _⟩ => ⟨S384x128, .i32⟩
  | .hbm, ⟨37, _⟩ => ⟨S384x128, .i32⟩
  | .hbm, ⟨38, _⟩ => ⟨S2x2x2, .f32⟩
  | .hbm, ⟨39, _⟩ => ⟨S2x2x2, .f32⟩
  | .hbm, ⟨40, _⟩ => ⟨S_, .i32⟩
  | .hbm, ⟨41, _⟩ => ⟨S384x128, .i32⟩
  | .hbm, ⟨42, _⟩ => ⟨S384x128, .i1⟩
  | .hbm, ⟨43, _⟩ => ⟨S_, .i32⟩
  | .hbm, ⟨44, _⟩ => ⟨S384x128, .i32⟩
  | .hbm, ⟨45, _⟩ => ⟨S384x128, .i1⟩
  | .hbm, ⟨46, _⟩ => ⟨S384x128, .i1⟩
  | .hbm, ⟨47, _⟩ => ⟨S_, .i32⟩
  | .hbm, ⟨48, _⟩ => ⟨S384x128, .i32⟩
  | .hbm, ⟨49, _⟩ => ⟨S384x128, .i1⟩
  | .hbm, ⟨50, _⟩ => ⟨S384x128, .i1⟩
  | .hbm, ⟨51, _⟩ => ⟨S1x384x128, .i1⟩
  | .hbm, ⟨52, _⟩ => ⟨S1x384x128, .i1⟩
  | .hbm, ⟨53, _⟩ => ⟨S1x384x128, .i1⟩
  | .hbm, ⟨54, _⟩ => ⟨S3x384x128, .i1⟩
  | .hbm, ⟨55, _⟩ => ⟨S3x1x1x384x1x128, .i1⟩
  | .hbm, ⟨56, _⟩ => ⟨S1x2x2x1x2x1, .f32⟩
  | .hbm, ⟨57, _⟩ => ⟨S1x2x2x1x2x1, .f32⟩
  | .hbm, ⟨58, _⟩ => ⟨S384x128, .f32⟩
  | .hbm, ⟨59, _⟩ => ⟨S1x1x1x384x1x128, .f32⟩
  | .hbm, ⟨60, _⟩ => ⟨S1x2x2x384x2x128, .f32⟩
  | .hbm, ⟨61, _⟩ => ⟨S1x2x2x384x2x128, .f32⟩
  | .hbm, ⟨62, _⟩ => ⟨S1x2x2x384x2x128, .f32⟩
  | .hbm, ⟨63, _⟩ => ⟨S_, .f32⟩
  | .hbm, ⟨64, _⟩ => ⟨S_, .f32⟩
  | .hbm, ⟨65, _⟩ => ⟨S3x2x2x384x2x128, .i1⟩
  | .hbm, ⟨66, _⟩ => ⟨S3x2x2x384x2x128, .f32⟩
  | .hbm, ⟨67, _⟩ => ⟨S3x2x2x384x2x128, .f32⟩
  | .hbm, ⟨68, _⟩ => ⟨S3x2x2x384x2x128, .f32⟩
  | .hbm, ⟨69, _⟩ => ⟨S12x384x256, .f32⟩
  | .hbm, ⟨70, _⟩ => ⟨S1x8, .f32⟩
  | .hbm, ⟨71, _⟩ => ⟨S1x2x2x2, .f32⟩
  | .hbm, ⟨72, _⟩ => ⟨S1x2x2x2, .f32⟩
  | .hbm, ⟨73, _⟩ => ⟨S1x4x1x2, .f32⟩
  | .hbm, ⟨74, _⟩ => ⟨S1x4x1x2x128, .f32⟩
  | .hbm, ⟨75, _⟩ => ⟨S1x4x1x256, .f32⟩
  | .hbm, ⟨76, _⟩ => ⟨S8x4096x512, .bf16⟩
  | .local _ .vmem, ⟨0, _⟩ => ⟨S1x4x1x256, .f32⟩
  | .local _ .vmem, ⟨1, _⟩ => ⟨S1x4096x512, .f32⟩
  | .local _ .vmem, ⟨2, _⟩ => ⟨S1x4096x512, .f32⟩
  | .local _ .vmem, ⟨3, _⟩ => ⟨S1x4096x512, .bf16⟩
  | .local _ .vmem, ⟨4, _⟩ => ⟨S1x4096x512, .bf16⟩
  | .local _ .vmem, ⟨5, _⟩ => ⟨S1x128x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x512, .bf16⟩
  | .local _ .vmem, ⟨9, _⟩ => ⟨S160x4096, .bf16⟩
  | .local _ .vmem, ⟨10, _⟩ => ⟨S160x4096, .bf16⟩
  | .local _ .vmem, ⟨11, _⟩ => ⟨S160x128, .bf16⟩
  | .local _ .vmem, ⟨12, _⟩ => ⟨S160x128, .bf16⟩
  | .local _ .vmem, ⟨13, _⟩ => ⟨S160x128, .bf16⟩
  | .local _ .vmem, ⟨14, _⟩ => ⟨S160x128, .bf16⟩
  | .local _ .vmem, ⟨15, _⟩ => ⟨S12x384x256, .f32⟩
  | .local _ .vmem, ⟨16, _⟩ => ⟨S1x4096x512, .bf16⟩
  | .local _ .vmem, ⟨17, _⟩ => ⟨S1x4096x512, .bf16⟩
  | .local _ .vmem, ⟨18, _⟩ => ⟨S6x384x256, .f32⟩
  | _, _ => ⟨S8x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_3 : Ref sig .tc := ⟨.hbm, 40, rfl⟩
abbrev main_v31 : Ref sig .tc := ⟨.hbm, 41, rfl⟩
abbrev main_v32 : Ref sig .tc := ⟨.hbm, 42, rfl⟩
abbrev main_c_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_6 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_call4_v3 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 1], ![false, false]⟩

def k0_off1 (i : grid0.Coords) (c0_i32_90 : BitVec 32) : Fin 3 → Nat :=
  let arg1 : BitVec 32 := BitVec.ofNat 32 (i 1).val
  let c0_i32 : BitVec 32 := 0#32
  let v98 : BitVec 1 := Scalar.cmpi .eq arg1 c0_i32
  let c1_i32 : BitVec 32 := 1#32
  let c0_i32_89 : BitVec 32 := 0#32
  let v99 : BitVec 32 := Scalar.select v98 c1_i32 c0_i32_89
  let c4_i32 : BitVec 32 := 4#32
  let v100 : BitVec 32 := Scalar.muli v99 c4_i32
  let v101 : BitVec 32 := Scalar.addi v100 c0_i32_90
  let v102 : Index := Scalar.indexCast v101
  let c0_91 : Index := 0#32
  let c0_92 : Index := 0#32
  ![v102.toNat, 0, 0]
def k0_off2 (i : grid0.Coords) (c0_i32_4004 : BitVec 32) : Fin 3 → Nat :=
  let arg1 : BitVec 32 := BitVec.ofNat 32 (i 1).val
  let c32_i32 : BitVec 32 := 32#32
  let v6004 : BitVec 32 := Scalar.muli arg1 c32_i32
  let c31_i32 : BitVec 32 := 31#32
  let v6005 : BitVec 32 := Scalar.addi v6004 c31_i32
  let c31_i32_4000 : BitVec 32 := 31#32
  let v6006 : BitVec 1 := Scalar.cmpi .eq v6005 c31_i32_4000
  let c2_i32_4001 : BitVec 32 := 2#32
  let c0_i32_4002 : BitVec 32 := 0#32
  let v6007 : BitVec 32 := Scalar.select v6006 c2_i32_4001 c0_i32_4002
  let c4_i32_4003 : BitVec 32 := 4#32
  let v6008 : BitVec 32 := Scalar.muli v6007 c4_i32_4003
  let v6009 : BitVec 32 := Scalar.addi v6008 c0_i32_4004
  let v6010 : Index := Scalar.indexCast v6009
  let c0_4005 : Index := 0#32
  let c0_4006 : Index := 0#32
  ![v6010.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c31_i32 : BitVec 32 := 31#32
  let v2 : BitVec 32 := Scalar.minsi v1 c31_i32
  let c0_i32 : BitVec 32 := 0#32
  let c0_i32_0 : BitVec 32 := 0#32
  ![arg0.toNat, v2.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c32_i32_0 : BitVec 32 := 32#32
  let v1 : BitVec 32 := Scalar.muli arg1 c32_i32_0
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_1 : BitVec 32 := 0#32
  let c0_i32_2 : BitVec 32 := 0#32
  ![c0_i32_1.toNat, v4.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.addi arg1 c1_i32
  let c32_i32_0 : BitVec 32 := 32#32
  let v2 : BitVec 32 := Scalar.muli v1 c32_i32_0
  let c31_i32 : BitVec 32 := 31#32
  let v3 : BitVec 32 := Scalar.minsi v2 c31_i32
  let v4 : BitVec 32 := Scalar.addi v0 v3
  let c0_i32 : BitVec 32 := 0#32
  let c0_i32_1 : BitVec 32 := 0#32
  ![c0_i32.toNat, v4.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x4x1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S160x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S160x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S160x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S12x384x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x4096x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "log2e" => some (((Real.log 2)⁻¹ : ℝ) : EReal)
  | "qscale" => some (((1 / 8) * (Real.log 2)⁻¹ : ℝ) : EReal)
  | _ => none
-- ==== ReferenceIdeal.lean ====
abbrev S8x4096x8x64 : Shape := ⟨4, ![8, 4096, 8, 64]⟩
abbrev S8x4096x2x64 : Shape := ⟨4, ![8, 4096, 2, 64]⟩
abbrev S8 : Shape := ⟨1, ![8]⟩
abbrev S_ : Shape := ⟨0, ![]⟩
abbrev S8x32x128x2x4x64 : Shape := ⟨6, ![8, 32, 128, 2, 4, 64]⟩
abbrev S8x4352x2x64 : Shape := ⟨4, ![8, 4352, 2, 64]⟩
abbrev S8x34x128x2x64 : Shape := ⟨5, ![8, 34, 128, 2, 64]⟩
abbrev S8x32x128x2x64 : Shape := ⟨5, ![8, 32, 128, 2, 64]⟩
abbrev S8x32x384x2x64 : Shape := ⟨5, ![8, 32, 384, 2, 64]⟩
abbrev S8x32x2x384x128x4 : Shape := ⟨6, ![8, 32, 2, 384, 128, 4]⟩
abbrev S8x32x2x4x128x384 : Shape := ⟨6, ![8, 32, 2, 4, 128, 384]⟩
abbrev S128 : Shape := ⟨1, ![128]⟩
abbrev S384 : Shape := ⟨1, ![384]⟩
abbrev S128x1 : Shape := ⟨2, ![128, 1]⟩
abbrev S1x384 : Shape := ⟨2, ![1, 384]⟩
abbrev S128x384 : Shape := ⟨2, ![128, 384]⟩
abbrev S32 : Shape := ⟨1, ![32]⟩
abbrev S32x1 : Shape := ⟨2, ![32, 1]⟩
abbrev S32x384 : Shape := ⟨2, ![32, 384]⟩
abbrev S1x128x384 : Shape := ⟨3, ![1, 128, 384]⟩
abbrev S32x1x384 : Shape := ⟨3, ![32, 1, 384]⟩
abbrev S32x128x384 : Shape := ⟨3, ![32, 128, 384]⟩
abbrev S2x4 : Shape := ⟨2, ![2, 4]⟩
abbrev S2x4x1x1 : Shape := ⟨4, ![2, 4, 1, 1]⟩
abbrev S1x1x128x384 : Shape := ⟨4, ![1, 1, 128, 384]⟩
abbrev S2x4x128x384 : Shape := ⟨4, ![2, 4, 128, 384]⟩
abbrev S1x1x2x4x128x384 : Shape := ⟨6, ![1, 1, 2, 4, 128, 384]⟩
abbrev S1x32x1x1x128x384 : Shape := ⟨6, ![1, 32, 1, 1, 128, 384]⟩
abbrev S8x32x2x4x128 : Shape := ⟨5, ![8, 32, 2, 4, 128]⟩
abbrev S8x32x2x4x128x1 : Shape := ⟨6, ![8, 32, 2, 4, 128, 1]⟩
abbrev S1x1x2x4x1x1 : Shape := ⟨6, ![1, 1, 2, 4, 1, 1]⟩
abbrev S8x32x2x64x4x128 : Shape := ⟨6, ![8, 32, 2, 64, 4, 128]⟩
abbrev S8x4096x512 : Shape := ⟨3, ![8, 4096, 512]⟩

abbrev nBuf : Space → Nat
  | .hbm => 106
  | .vmem => 0
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x2x64, .f32⟩
  | .hbm, ⟨2, _⟩ => ⟨S8x4096x2x64, .f32⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S8x4096x8x64, .f32⟩
  | .hbm, ⟨7, _⟩ => ⟨S8x4096x8x64, .f32⟩
  | .hbm, ⟨8, _⟩ => ⟨S8x32x128x2x4x64, .f32⟩
  | .hbm, ⟨9, _⟩ => ⟨S_, .i32⟩
  | .hbm, ⟨10, _⟩ => ⟨S_, .f32⟩
  | .hbm, ⟨11, _⟩ => ⟨S8x4352x2x64, .f32⟩
  | .hbm, ⟨12, _⟩ => ⟨S8x34x128x2x64, .f32⟩
  | .hbm, ⟨13, _⟩ => ⟨S_, .i32⟩
  | .hbm, ⟨14, _⟩ => ⟨S_, .f32⟩
  | .hbm, ⟨15, _⟩ => ⟨S8x4352x2x64, .f32⟩
  | .hbm, ⟨16, _⟩ => ⟨S8x34x128x2x64, .f32⟩
  | .hbm, ⟨17, _⟩ => ⟨S8x32x128x2x64, .f32⟩
  | .hbm, ⟨18, _⟩ => ⟨S8x32x128x2x64, .f32⟩
  | .hbm, ⟨19, _⟩ => ⟨S8x32x128x2x64, .f32⟩
  | .hbm, ⟨20, _⟩ => ⟨S8x32x384x2x64, .f32⟩
  | .hbm, ⟨21, _⟩ => ⟨S8x32x128x2x64, .f32⟩
  | .hbm, ⟨22, _⟩ => ⟨S8x32x128x2x64, .f32⟩
  | .hbm, ⟨23, _⟩ => ⟨S8x32x128x2x64, .f32⟩
  | .hbm, ⟨24, _⟩ => ⟨S8x32x384x2x64, .f32⟩
  | .hbm, ⟨25, _⟩ => ⟨S8x32x2x384x128x4, .f32⟩
  | .hbm, ⟨26, _⟩ => ⟨S8x32x2x4x128x384, .f32⟩
  | .hbm, ⟨27, _⟩ => ⟨S128, .i32⟩
  | .hbm, ⟨28, _⟩ => ⟨S384, .i32⟩
  | .hbm, ⟨29, _⟩ => ⟨S128x1, .i32⟩
  | .hbm, ⟨30, _⟩ => ⟨S_, .i32⟩
  | .hbm, ⟨31, _⟩ => ⟨S128x1, .i32⟩
  | .hbm, ⟨32, _⟩ => ⟨S128x1, .i32⟩
  | .hbm, ⟨33, _⟩ => ⟨S1x384, .i32⟩
  | .hbm, ⟨34, _⟩ => ⟨S128x384, .i32⟩
  | .hbm, ⟨35, _⟩ => ⟨S128x384, .i32⟩
  | .hbm, ⟨36, _⟩ => ⟨S128x384, .i32⟩
  | .hbm, ⟨37, _⟩ => ⟨S128x384, .i32⟩
  | .hbm, ⟨38, _⟩ => ⟨S32, .i32⟩
  | .hbm, ⟨39, _⟩ => ⟨S32x1, .i32⟩
  | .hbm, ⟨40, _⟩ => ⟨S_, .i32⟩
  | .hbm, ⟨41, _⟩ => ⟨S32x1, .i32⟩
  | .hbm, ⟨42, _⟩ => ⟨S32x1, .i32⟩
  | .hbm, ⟨43, _⟩ => ⟨S_, .i32⟩
  | .hbm, ⟨44, _⟩ => ⟨S32x1, .i32⟩
  | .hbm, ⟨45, _⟩ => ⟨S32x1, .i32⟩
  | .hbm, ⟨46, _⟩ => ⟨S1x384, .i32⟩
  | .hbm, ⟨47, _⟩ => ⟨S32x384, .i32⟩
  | .hbm, ⟨48, _⟩ => ⟨S32x384, .i32⟩
  | .hbm, ⟨49, _⟩ => ⟨S32x384, .i32⟩
  | .hbm, ⟨50, _⟩ => ⟨S_, .i32⟩
  | .hbm, ⟨51, _⟩ => ⟨S128x384, .i32⟩
  | .hbm, ⟨52, _⟩ => ⟨S128x384, .i1⟩
  | .hbm, ⟨53, _⟩ => ⟨S1x128x384, .i1⟩
  | .hbm, ⟨54, _⟩ => ⟨S_, .i32⟩
  | .hbm, ⟨55, _⟩ => ⟨S32x384, .i32⟩
  | .hbm, ⟨56, _⟩ => ⟨S32x384, .i1⟩
  | .hbm, ⟨57, _⟩ => ⟨S_, .i32⟩
  | .hbm, ⟨58, _⟩ => ⟨S32x384, .i32⟩
  | .hbm, ⟨59, _⟩ => ⟨S32x384, .i1⟩
  | .hbm, ⟨60, _⟩ => ⟨S32x384, .i1⟩
  | .hbm, ⟨61, _⟩ => ⟨S32x1x384, .i1⟩
  | .hbm, ⟨62, _⟩ => ⟨S32x128x384, .i1⟩
  | .hbm, ⟨63, _⟩ => ⟨S32x128x384, .i1⟩
  | .hbm, ⟨64, _⟩ => ⟨S32x128x384, .i1⟩
  | .hbm, ⟨65, _⟩ => ⟨S2x4, .f32⟩
  | .hbm, ⟨66, _⟩ => ⟨S2x4x1x1, .f32⟩
  | .hbm, ⟨67, _⟩ => ⟨S128x384, .f32⟩
  | .hbm, ⟨68, _⟩ => ⟨S1x1x128x384, .f32⟩
  | .hbm, ⟨69, _⟩ => ⟨S2x4x128x384, .f32⟩
  | .hbm, ⟨70, _⟩ => ⟨S2x4x128x384, .f32⟩
  | .hbm, ⟨71, _⟩ => ⟨S2x4x128x384, .f32⟩
  | .hbm, ⟨72, _⟩ => ⟨S1x1x2x4x128x384, .f32⟩
  | .hbm, ⟨73, _⟩ => ⟨S8x32x2x4x128x384, .f32⟩
  | .hbm, ⟨74, _⟩ => ⟨S8x32x2x4x128x384, .f32⟩
  | .hbm, ⟨75, _⟩ => ⟨S1x32x1x1x128x384, .i1⟩
  | .hbm, ⟨76, _⟩ => ⟨S_, .f32⟩
  | .hbm, ⟨77, _⟩ => ⟨S_, .f32⟩
  | .hbm, ⟨78, _⟩ => ⟨S8x32x2x4x128x384, .i1⟩
  | .hbm, ⟨79, _⟩ => ⟨S8x32x2x4x128x384, .f32⟩
  | .hbm, ⟨80, _⟩ => ⟨S8x32x2x4x128x384, .f32⟩
  | .hbm, ⟨81, _⟩ => ⟨S2x4, .f32⟩
  | .hbm, ⟨82, _⟩ => ⟨S2x4x1x1, .f32⟩
  | .hbm, ⟨83, _⟩ => ⟨S_, .f32⟩
  | .hbm, ⟨84, _⟩ => ⟨S8x32x2x4x128, .f32⟩
  | .hbm, ⟨85, _⟩ => ⟨S8x32x2x4x128x1, .f32⟩
  | .hbm, ⟨86, _⟩ => ⟨S1x1x2x4x1x1, .f32⟩
  | .hbm, ⟨87, _⟩ => ⟨S8x32x2x4x128x1, .f32⟩
  | .hbm, ⟨88, _⟩ => ⟨S8x32x2x4x128x1, .f32⟩
  | .hbm, ⟨89, _⟩ => ⟨S8x32x2x4x128x384, .f32⟩
  | .hbm, ⟨90, _⟩ => ⟨S8x32x2x4x128x384, .f32⟩
  | .hbm, ⟨91, _⟩ => ⟨S8x32x2x4x128x384, .f32⟩
  | .hbm, ⟨92, _⟩ => ⟨S_, .f32⟩
  | .hbm, ⟨93, _⟩ => ⟨S8x32x2x4x128, .f32⟩
  | .hbm, ⟨94, _⟩ => ⟨S8x32x2x4x128x1, .f32⟩
  | .hbm, ⟨95, _⟩ => ⟨S1x1x2x4x1x1, .f32⟩
  | .hbm, ⟨96, _⟩ => ⟨S8x32x2x4x128x1, .f32⟩
  | .hbm, ⟨97, _⟩ => ⟨S8x32x2x4x128x1, .f32⟩
  | .hbm, ⟨98, _⟩ => ⟨S8x32x2x4x128x1, .f32⟩
  | .hbm, ⟨99, _⟩ => ⟨S8x32x2x4x128x1, .f32⟩
  | .hbm, ⟨100, _⟩ => ⟨S8x32x2x4x128x384, .f32⟩
  | .hbm, ⟨101, _⟩ => ⟨S8x32x2x4x128x384, .f32⟩
  | .hbm, ⟨102, _⟩ => ⟨S8x32x2x64x4x128, .f32⟩
  | .hbm, ⟨103, _⟩ => ⟨S8x32x128x2x4x64, .f32⟩
  | .hbm, ⟨104, _⟩ => ⟨S8x4096x512, .f32⟩
  | .hbm, ⟨105, _⟩ => ⟨S8x4096x512, .bf16⟩
  | _, _ => ⟨S8x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_3 : Ref sig .tc := ⟨.hbm, 40, rfl⟩
abbrev main_v29 : Ref sig .tc := ⟨.hbm, 41, rfl⟩
abbrev main_v30 : Ref sig .tc := ⟨.hbm, 42, rfl⟩
abbrev main_c_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_6 : Ref sig .tc := ⟨.hbm, 54, rfl⟩
abbrev main_v40 : Ref sig .tc := ⟨.hbm, 55, rfl⟩
abbrev main_v41 : Ref sig .tc := ⟨.hbm, 56, rfl⟩
abbrev main_c_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_8 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_9 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_10 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩

abbrev nD : Nat := 1
abbrev τ : Topo := Topo.v7x

variable {F : FTy → Type} [FloatOps F]
-- ==== Ffn.lean ====
abbrev S8x4096x1024 : Shape := ⟨3, ![8, 4096, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S32768x1024 : Shape := ⟨2, ![32768, 1024]⟩
abbrev S4x1x1024 : Shape := ⟨3, ![4, 1, 1024]⟩
abbrev S1024x1024 : Shape := ⟨2, ![1024, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S1x1024 : Shape := ⟨2, ![1, 1024]⟩
abbrev S1024 : Shape := ⟨1, ![1024]⟩
abbrev S1024x1 : Shape := ⟨2, ![1024, 1]⟩
abbrev S1x1024x256 : Shape := ⟨3, ![1, 1024, 256]⟩
abbrev S1024x256 : Shape := ⟨2, ![1024, 256]⟩
abbrev S2816x1024 : Shape := ⟨2, ![2816, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S4x1024, .f32⟩
  | .hbm, ⟨2, _⟩ => ⟨S4x1024x5632, .f32⟩
  | .hbm, ⟨3, _⟩ => ⟨S4x2816x1024, .f32⟩
  | .hbm, ⟨4, _⟩ => ⟨S32768x1024, .f32⟩
  | .hbm, ⟨5, _⟩ => ⟨S4x1x1024, .f32⟩
  | .hbm, ⟨6, _⟩ => ⟨S4x1024x5632, .bf16⟩
  | .hbm, ⟨7, _⟩ => ⟨S4x2816x1024, .bf16⟩
  | .hbm, ⟨8, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnReferenceIdeal.lean ====
abbrev S8x4096x1024 : Shape := ⟨3, ![8, 4096, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S32768x5632 : Shape := ⟨2, ![32768, 5632]⟩
abbrev S32768x2816 : Shape := ⟨2, ![32768, 2816]⟩
abbrev S1x2816x1024 : Shape := ⟨3, ![1, 2816, 1024]⟩
abbrev S2816x1024 : Shape := ⟨2, ![2816, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S4x1024, .f32⟩
  | .hbm, ⟨2, _⟩ => ⟨S4x1024x5632, .f32⟩
  | .hbm, ⟨3, _⟩ => ⟨S4x2816x1024, .f32⟩
  | .hbm, ⟨4, _⟩ => ⟨S32768x1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S32768x1024, .f32⟩
  | .hbm, ⟨22, _⟩ => ⟨S32768x1024, .f32⟩
  | .hbm, ⟨23, _⟩ => ⟨S1x1024x5632, .f32⟩
  | .hbm, ⟨24, _⟩ => ⟨S1024x5632, .f32⟩
  | .hbm, ⟨25, _⟩ => ⟨S32768x5632, .f32⟩
  | .hbm, ⟨26, _⟩ => ⟨S32768x2816, .f32⟩
  | .hbm, ⟨27, _⟩ => ⟨S32768x2816, .f32⟩
  | .hbm, ⟨28, _⟩ => ⟨S32768x2816, .f32⟩
  | .hbm, ⟨29, _⟩ => ⟨S32768x2816, .f32⟩
  | .hbm, ⟨30, _⟩ => ⟨S_, .f32⟩
  | .hbm, ⟨31, _⟩ => ⟨S32768x2816, .f32⟩
  | .hbm, ⟨32, _⟩ => ⟨S32768x2816, .f32⟩
  | .hbm, ⟨33, _⟩ => ⟨S_, .f32⟩
  | .hbm, ⟨34, _⟩ => ⟨S32768x2816, .f32⟩
  | .hbm, ⟨35, _⟩ => ⟨S32768x2816, .f32⟩
  | .hbm, ⟨36, _⟩ => ⟨S32768x2816, .f32⟩
  | .hbm, ⟨37, _⟩ => ⟨S32768x2816, .f32⟩
  | .hbm, ⟨38, _⟩ => ⟨S1x2816x1024, .f32⟩
  | .hbm, ⟨39, _⟩ => ⟨S2816x1024, .f32⟩
  | .hbm, ⟨40, _⟩ => ⟨S32768x1024, .f32⟩
  | .hbm, ⟨41, _⟩ => ⟨S_, .f32⟩
  | .hbm, ⟨42, _⟩ => ⟨S32768x1024, .f32⟩
  | .hbm, ⟨43, _⟩ => ⟨S32768x1024, .f32⟩
  | .hbm, ⟨44, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Mix.lean ====
abbrev S8x4096x1024 : Shape := ⟨3, ![8, 4096, 1024]⟩
abbrev S8x4096x512 : Shape := ⟨3, ![8, 4096, 512]⟩
abbrev S4x1024 : Shape := ⟨2, ![4, 1024]⟩
abbrev S4x1024x3328 : Shape := ⟨3, ![4, 1024, 3328]⟩
abbrev S4x512x1024 : Shape := ⟨3, ![4, 512, 1024]⟩
abbrev S4x1024x1024 : Shape := ⟨3, ![4, 1024, 1024]⟩
abbrev S512x64x512 : Shape := ⟨3, ![512, 64, 512]⟩
abbrev S_ : Shape := ⟨0, ![]⟩
abbrev S512x72x512 : Shape := ⟨3, ![512, 72, 512]⟩
abbrev S36864x512 : Shape := ⟨2, ![36864, 512]⟩
abbrev S32768x1024 : Shape := ⟨2, ![32768, 1024]⟩
abbrev S32768x512 : Shape := ⟨2, ![32768, 512]⟩
abbrev S4x1x1024 : Shape := ⟨3, ![4, 1, 1024]⟩
abbrev S1024x1024 : Shape := ⟨2, ![1024, 1024]⟩
abbrev S1024x512 : Shape := ⟨2, ![1024, 512]⟩
abbrev S1152x512 : Shape := ⟨2, ![1152, 512]⟩
abbrev S1x1x1024 : Shape := ⟨3, ![1, 1, 1024]⟩
abbrev S1x1024x3328 : Shape := ⟨3, ![1, 1024, 3328]⟩
abbrev S1x512x1024 : Shape := ⟨3, ![1, 512, 1024]⟩
abbrev S1x1024x1024 : Shape := ⟨3, ![1, 1024, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S512x512 : Shape := ⟨2, ![512, 512]⟩
abbrev S64x512 : Shape := ⟨2, ![64, 512]⟩

abbrev nBuf : Space → Nat
  | .hbm => 22
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S4x1024, .f32⟩
  | .hbm, ⟨4, _⟩ => ⟨S4x1024x3328, .f32⟩
  | .hbm, ⟨5, _⟩ => ⟨S4x512x1024, .f32⟩
  | .hbm, ⟨6, _⟩ => ⟨S4x512x1024, .f32⟩
  | .hbm, ⟨7, _⟩ => ⟨S4x1024x1024, .f32⟩
  | .hbm, ⟨8, _⟩ => ⟨S512x64x512, .f32⟩
  | .hbm, ⟨9, _⟩ => ⟨S_, .i32⟩
  | .hbm, ⟨10, _⟩ => ⟨S_, .f32⟩
  | .hbm, ⟨11, _⟩ => ⟨S512x72x512, .f32⟩
  | .hbm, ⟨12, _⟩ => ⟨S36864x512, .f32⟩
  | .hbm, ⟨13, _⟩ => ⟨S32768x1024, .f32⟩
  | .hbm, ⟨14, _⟩ => ⟨S32768x512, .f32⟩
  | .hbm, ⟨15, _⟩ => ⟨S32768x512, .bf16⟩
  | .hbm, ⟨16, _⟩ => ⟨S4x1x1024, .f32⟩
  | .hbm, ⟨17, _⟩ => ⟨S4x1024x3328, .bf16⟩
  | .hbm, ⟨18, _⟩ => ⟨S4x512x1024, .bf16⟩
  | .hbm, ⟨19, _⟩ => ⟨S4x512x1024, .bf16⟩
  | .hbm, ⟨20, _⟩ => ⟨S4x1024x1024, .bf16⟩
  | .hbm, ⟨21, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1152x512, .f32⟩
  | .local _ .vmem, ⟨5, _⟩ => ⟨S1152x512, .f32⟩
  | .local _ .vmem, ⟨6, _⟩ => ⟨S1x1x1024, .f32⟩
  | .local _ .vmem, ⟨7, _⟩ => ⟨S1x1024x3328, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x1024x1024, .bf16⟩
  | .local _ .vmem, ⟨11, _⟩ => ⟨S1024x1024, .f32⟩
  | .local _ .vmem, ⟨12, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1152x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x3328 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixReferenceIdeal.lean ====
abbrev S8x4096x1024 : Shape := ⟨3, ![8, 4096, 1024]⟩
abbrev S8x4096x512 : Shape := ⟨3, ![8, 4096, 512]⟩
abbrev S4x1024 : Shape := ⟨2, ![4, 1024]⟩
abbrev S4x1024x3328 : Shape := ⟨3, ![4, 1024, 3328]⟩
abbrev S4x512x1024 : Shape := ⟨3, ![4, 512, 1024]⟩
abbrev S4x1024x1024 : Shape := ⟨3, ![4, 1024, 1024]⟩
abbrev S32768x1024 : Shape := ⟨2, ![32768, 1024]⟩
abbrev S32768x512 : Shape := ⟨2, ![32768, 512]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1024 : Shape := ⟨1, ![1024]⟩
abbrev S1x1024x3328 : Shape := ⟨3, ![1, 1024, 3328]⟩
abbrev S1024x3328 : Shape := ⟨2, ![1024, 3328]⟩
abbrev S32768x3328 : Shape := ⟨2, ![32768, 3328]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 63
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S4x1024, .f32⟩
  | .hbm, ⟨4, _⟩ => ⟨S4x1024x3328, .f32⟩
  | .hbm, ⟨5, _⟩ => ⟨S4x512x1024, .f32⟩
  | .hbm, ⟨6, _⟩ => ⟨S4x512x1024, .f32⟩
  | .hbm, ⟨7, _⟩ => ⟨S4x1024x1024, .f32⟩
  | .hbm, ⟨8, _⟩ => ⟨S32768x1024, .f32⟩
  | .hbm, ⟨9, _⟩ => ⟨S32768x512, .f32⟩
  | .hbm, ⟨10, _⟩ => ⟨S32768x512, .f32⟩
  | .hbm, ⟨11, _⟩ => ⟨S32768x1024, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S32768x1024, .f32⟩
  | .hbm, ⟨28, _⟩ => ⟨S32768x1024, .f32⟩
  | .hbm, ⟨29, _⟩ => ⟨S1x1024x3328, .f32⟩
  | .hbm, ⟨30, _⟩ => ⟨S1024x3328, .f32⟩
  | .hbm, ⟨31, _⟩ => ⟨S32768x3328, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S32768x1024, .f32⟩
  | .hbm, ⟨37, _⟩ => ⟨S32768x1024, .f32⟩
  | .hbm, ⟨38, _⟩ => ⟨S_, .f32⟩
  | .hbm, ⟨39, _⟩ => ⟨S32768x1024, .f32⟩
  | .hbm, ⟨40, _⟩ => ⟨S32768x1024, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S_, .f32⟩
  | .hbm, ⟨45, _⟩ => ⟨S32768x1024, .f32⟩
  | .hbm, ⟨46, _⟩ => ⟨S32768x1024, .f32⟩
  | .hbm, ⟨47, _⟩ => ⟨S_, .f32⟩
  | .hbm, ⟨48, _⟩ => ⟨S32768x1024, .f32⟩
  | .hbm, ⟨49, _⟩ => ⟨S32768x1024, .f32⟩
  | .hbm, ⟨50, _⟩ => ⟨S1x512x1024, .f32⟩
  | .hbm, ⟨51, _⟩ => ⟨S512x1024, .f32⟩
  | .hbm, ⟨52, _⟩ => ⟨S32768x1024, .f32⟩
  | .hbm, ⟨53, _⟩ => ⟨S1x512x1024, .f32⟩
  | .hbm, ⟨54, _⟩ => ⟨S512x1024, .f32⟩
  | .hbm, ⟨55, _⟩ => ⟨S32768x1024, .f32⟩
  | .hbm, ⟨56, _⟩ => ⟨S32768x1024, .f32⟩
  | .hbm, ⟨57, _⟩ => ⟨S32768x1024, .f32⟩
  | .hbm, ⟨58, _⟩ => ⟨S32768x1024, .f32⟩
  | .hbm, ⟨59, _⟩ => ⟨S1x1024x1024, .f32⟩
  | .hbm, ⟨60, _⟩ => ⟨S1024x1024, .f32⟩
  | .hbm, ⟨61, _⟩ => ⟨S32768x1024, .f32⟩
  | .hbm, ⟨62, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Proof.FfnValue.lean ====
module

public import proofs.«01_k».proof.Proof.Gen.FfnIdeal.Frame
public import proofs.«01_k».proof.Proof.Gen.FfnReferenceIdeal.Run
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)

namespace Cert.FfnIdeal.Value
/-! ## The reference's term -/
section
open Cert.FfnReferenceIdeal Cert.FfnReferenceIdeal.Gen

/-- The reference's tokens, one row each. -/
def rows (X : FVec Ideal S8x4096x1024 .f32) : FVec Ideal S32768x1024 .f32 :=
  shapeCast _ X shapeCasts_S8x4096x1024_S32768x1024

/-- The reference's normalized tokens. -/
def normed (X : FVec Ideal S8x4096x1024 .f32) (L : FVec Ideal S4x1024 .f32) : FVec Ideal S32768x1024 .f32 :=
  mulf (mulf (rows X) (broadcastInDim S32768x1024 ![0, 1] bcast_S32768x1_S32768x1024_0_1 (Host.rsqrt (addf (Host.divf (broadcastInDim S32768x1 ![0] bcast_S32768_S32768x1_0 (Host.reduceAdd (mulf (rows X) (rows X)) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (shapeCast _ (extractStridedSlice S1x1024 ![0, 0] L slices_S4x1024_S1x1024_0_0) shapeCasts_S1x1024_S1024)))

/-- The reference's two hidden halves side by side. -/
def hidden (X : FVec Ideal S8x4096x1024 .f32) (L : FVec Ideal S4x1024 .f32) (W : FVec Ideal S4x1024x5632 .f32) : FVec Ideal S32768x5632 .f32 :=
  Host.dotGeneral dot_S32768x1024_S1024x5632_S32768x5632_1_0_0_1_n_n none (normed X L) (shapeCast _ (extractStridedSlice S1x1024x5632 ![0, 0, 0] W slices_S4x1024x5632_S1x1024x5632_0_0_0) shapeCasts_S1x1024x5632_S1024x5632)

/-- The reference's gate half. -/
def gate (X : FVec Ideal S8x4096x1024 .f32) (L : FVec Ideal S4x1024 .f32) (W : FVec Ideal S4x1024x5632 .f32) : FVec Ideal S32768x2816 .f32 :=
  extractStridedSlice S32768x2816 ![0, 0] (hidden X L W) slices_S32768x5632_S32768x2816_0_0

/-- The reference's gated activation. -/
def gated (X : FVec Ideal S8x4096x1024 .f32) (L : FVec Ideal S4x1024 .f32) (W : FVec Ideal S4x1024x5632 .f32) : FVec Ideal S32768x2816 .f32 :=
  mulf (mulf (gate X L W) (Host.divf (broadcastInDim S32768x2816 ![] bcast_S_S32768x2816 (constant S_ .f32 0x3F800000#32)) (addf (broadcastInDim S32768x2816 ![] bcast_S_S32768x2816 (constant S_ .f32 0x3F800000#32)) (Host.exp (Host.negf (gate X L W))))))
    (extractStridedSlice S32768x2816 ![0, 2816] (hidden X L W) slices_S32768x5632_S32768x2816_0_2816)

/-- The reference's result. -/
def REF (X : FVec Ideal S8x4096x1024 .f32) (L : FVec Ideal S4x1024 .f32) (W : FVec Ideal S4x1024x5632 .f32) (Wo : FVec Ideal S4x2816x1024 .f32) : FVec Ideal S32768x1024 .f32 :=
  addf (rows X) (mulf (broadcastInDim S32768x1024 ![] bcast_S_S32768x1024 (constant S_ .f32 0x3F000000#32))
    (Host.dotGeneral dot_S32768x2816_S2816x1024_S32768x1024_1_0_0_1_n_n none (gated X L W) (shapeCast _ (extractStridedSlice S1x2816x1024 ![0, 0, 0] Wo slices_S4x2816x1024_S1x2816x1024_0_0_0) shapeCasts_S1x2816x1024_S2816x1024)))

/-- The reference's run ends at this term. -/
theorem res_eq (m : (ℓ : Loc Cert.FfnReferenceIdeal.nD Cert.FfnReferenceIdeal.τ Cert.FfnReferenceIdeal.sig) → Buf (Elt Ideal) ℓ) (c : Dev Cert.FfnReferenceIdeal.nD) :
    Cert.FfnReferenceIdeal.Value.res_main_v28 m c = REF (m ((c.tc : Thread Cert.FfnReferenceIdeal.nD Cert.FfnReferenceIdeal.τ).loc Cert.FfnReferenceIdeal.main_arg0))
      (m ((c.tc : Thread Cert.FfnReferenceIdeal.nD Cert.FfnReferenceIdeal.τ).loc Cert.FfnReferenceIdeal.main_arg1))
      (m ((c.tc : Thread Cert.FfnReferenceIdeal.nD Cert.FfnReferenceIdeal.τ).loc Cert.FfnReferenceIdeal.main_arg2))
      (m ((c.tc : Thread Cert.FfnReferenceIdeal.nD Cert.FfnReferenceIdeal.τ).loc Cert.FfnReferenceIdeal.main_arg3)) := rfl
end

open Cert.FfnIdeal Cert.FfnIdeal.Gen

/-- A load of a whole buffer after stores that are blocks of `G` and cover it reads `G`. -/
theorem readCov_whole {sig : RefSig} {κ : Kind} {sp : Space} {s : Shape} {e : EltTy} {Val : EltTy → Type} [∀ e, Nonempty (Val e)]
    (v : View sig κ sp s e) (G : s.Idx → Val e) (L : List (View.Piece Val s e)) (hL : View.PiecesOf G L)
    (hc : ∀ y, ∃ p ∈ L, y ∈ p.1.set) {off : Fin s.rank → ℕ} (inb : ∀ a, off a + s.size a ≤ s.size a) (h0 : ∀ a, off a = 0) :
    v.readCov L (Rect.unit off s.size inb).toLoadRect = G := by
  rw [View.readCov_eq_canon_ld v L _ hc]
  funext j
  have h := View.canon_append_of_piecesOf G [] L hL j (hc j)
  rw [List.append_nil] at h
  rw [← h]
  refine congrArg (View.canon L) ?_
  funext a
  apply Fin.ext
  show off a + 1 * (j a : ℕ) = j a
  rw [h0 a]; omega

/-- The windows' block indices at grid point `t`. -/
theorem idx : ∀ t : Fin cfg0.N, win0_0.index t = ![t.val, 0] ∧ win0_1.index t = ![0, 0, 0] ∧ win0_2.index t = ![0, 0, 0]
    ∧ win0_3.index t = ![0, 0, 1] ∧ win0_4.index t = ![0, 0, 0] ∧ win0_5.index t = ![t.val, 0] :=
  (by decide +kernel : ∀ t : Fin grid0.N, _)

/-- The gated activation at one row and one hidden column: `silu(h·wg) * (h·wu)`. -/
def act (h : FVec Ideal S1024x1024 .bf16) (wg wu : FVec Ideal S1x1024x2816 .bf16) : FVec Ideal S1024x2816 .bf16 := fun i =>
  (∑ k : Fin 1024, h (ix2 (i 0) k) * wg (ix3 0 k (i 1))) * FloatOps.logistic (F := Ideal) (φ := .f32) (∑ k : Fin 1024, h (ix2 (i 0) k) * wg (ix3 0 k (i 1)))
    * ∑ k : Fin 1024, h (ix2 (i 0) k) * wu (ix3 0 k (i 1))

/-- One stored chunk of 256 hidden columns is the activation at those columns. -/
theorem chunk (h : FVec Ideal S1024x1024 .bf16) (wg wu : FVec Ideal S1x1024x2816 .bf16) (a b : FVec Ideal S1x1024x256 .bf16)
    (r : Fin 1024) (l : Fin 256) (o : Fin 2816)
    (ha : ∀ k, a (ix3 0 k l) = wg (ix3 0 k o)) (hb : ∀ k, b (ix3 0 k l) = wu (ix3 0 k o)) :
    k0_pay7 h a b (ix2 r l) = act h wg wu (ix2 r o) := by
  pointwise [k0_pay7, act]
  simp only [ha, hb]

/-! ## One block against the reference -/
section
variable (X : FVec Ideal S8x4096x1024 .f32) (L : FVec Ideal S4x1024 .f32) (W : FVec Ideal S4x1024x5632 .f32) (Wo : FVec Ideal S4x2816x1024 .f32)
  (x0 : FVec Ideal S1024x1024 .f32) (x1 : FVec Ideal S1x1x1024 .f32) (x2 x3 : FVec Ideal S1x1024x2816 .bf16) (x4 : FVec Ideal S1x2816x1024 .bf16)
  (R : Fin 1024 → Fin 32768)

/-- The block's normalized rows are the reference's. -/
theorem normed_block (h0 : ∀ r k, x0 (ix2 r k) = rows X (ix2 (R r) k)) (h1 : ∀ k, x1 (ix3 0 0 k) = L (ix2 0 k)) (r : Fin 1024) (k : Fin 1024) :
    k0_pay3 (F := Ideal) x0 x1 (ix2 r k) = (normed X L (ix2 (R r) k) : EReal) := by
  pointwise [k0_pay3, k0_pay2, normed]
  simp only [h0, h1]

/-- The block's activation is the reference's. -/
theorem gated_block (h0 : ∀ r k, x0 (ix2 r k) = rows X (ix2 (R r) k)) (h1 : ∀ k, x1 (ix3 0 0 k) = L (ix2 0 k))
    (h2 : ∀ k (q : Fin 2816), x2 (ix3 0 k q) = W (ix3 0 k ⟨q, by omega⟩)) (h3 : ∀ k (q : Fin 2816), x3 (ix3 0 k q) = W (ix3 0 k ⟨2816 + q, by omega⟩))
    (r : Fin 1024) (q : Fin 2816) :
    act (k0_pay3 x0 x1) x2 x3 (ix2 r q) = gated X L W (ix2 (R r) q) := by
  pointwise [act, gated, gate, hidden]
  simp only [normed_block X L x0 x1 R h0 h1, h2, h3]
  rfl

/-- What the block stores is the reference's result at the block's rows. -/
theorem result_block (h0 : ∀ r k, x0 (ix2 r k) = rows X (ix2 (R r) k)) (h1 : ∀ k, x1 (ix3 0 0 k) = L (ix2 0 k))
    (h2 : ∀ k (q : Fin 2816), x2 (ix3 0 k q) = W (ix3 0 k ⟨q, by omega⟩)) (h3 : ∀ k (q : Fin 2816), x3 (ix3 0 k q) = W (ix3 0 k ⟨2816 + q, by omega⟩))
    (h4 : ∀ q j, x4 (ix3 0 q j) = Wo (ix3 0 q j)) (r : Fin 1024) (j : Fin 1024) :
    k0_pay1 (k0_pay2 x0) (k0_pay19 (act (k0_pay3 x0 x1) x2 x3) x4) (ix2 r j) = REF X L W Wo (ix2 (R r) j) := by
  pointwise [k0_pay1, k0_pay2, k0_pay19, REF]
  simp only [gated_block X L W x0 x1 x2 x3 R h0 h1 h2 h3, h0, h4]
end

variable (m : (ℓ : Loc nD τ sig) → Buf (Elt Ideal) ℓ)

/-- After the last grid point the output array holds the reference's result. -/
theorem final (c : Dev nD) : (dats m 0 c).arrAt 5 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  unfold outsAt0
  frame_out
  refine (congrArg (fun z => k0_pay1 (k0_pay2 (iblk m c 0 t)) (k0_pay19 z (iblk m c 4 t)) y)
    (readCov_whole (View.whole cc0_scratch0) (act (k0_pay3 (iblk m c 0 t) (iblk m c 1 t)) (iblk m c 2 t) (iblk m c 3 t)) _ ?_ ?_
      inb_S1024x2816_S1024x2816_0_0 (by decide))).trans ?_
  · refine ⟨?_, ?_, ?_, ?_, ?_, ?_, ?_, ?_, ?_, ?_, ?_, trivial⟩
    all_goals intro x
    all_goals idx_vars x
    · refine (chunk _ (iblk m c 2 t) (iblk m c 3 t) _ _ _ _ ⟨2560 + x1, by omega⟩ (fun k => ?_) (fun k => ?_)).trans (congrArg _ ?_)
      all_goals first | (pointwise; done) | (blk_ext; done)
    · refine (chunk _ (iblk m c 2 t) (iblk m c 3 t) _ _ _ _ ⟨2304 + x1, by omega⟩ (fun k => ?_) (fun k => ?_)).trans (congrArg _ ?_)
      all_goals first | (pointwise; done) | (blk_ext; done)
    · refine (chunk _ (iblk m c 2 t) (iblk m c 3 t) _ _ _ _ ⟨2048 + x1, by omega⟩ (fun k => ?_) (fun k => ?_)).trans (congrArg _ ?_)
      all_goals first | (pointwise; done) | (blk_ext; done)
    · refine (chunk _ (iblk m c 2 t) (iblk m c 3 t) _ _ _ _ ⟨1792 + x1, by omega⟩ (fun k => ?_) (fun k => ?_)).trans (congrArg _ ?_)
      all_goals first | (pointwise; done) | (blk_ext; done)
    · refine (chunk _ (iblk m c 2 t) (iblk m c 3 t) _ _ _ _ ⟨1536 + x1, by omega⟩ (fun k => ?_) (fun k => ?_)).trans (congrArg _ ?_)
      all_goals first | (pointwise; done) | (blk_ext; done)
    · refine (chunk _ (iblk m c 2 t) (iblk m c 3 t) _ _ _ _ ⟨1280 + x1, by omega⟩ (fun k => ?_) (fun k => ?_)).trans (congrArg _ ?_)
      all_goals first | (pointwise; done) | (blk_ext; done)
    · refine (chunk _ (iblk m c 2 t) (iblk m c 3 t) _ _ _ _ ⟨1024 + x1, by omega⟩ (fun k => ?_) (fun k => ?_)).trans (congrArg _ ?_)
      all_goals first | (pointwise; done) | (blk_ext; done)
    · refine (chunk _ (iblk m c 2 t) (iblk m c 3 t) _ _ _ _ ⟨768 + x1, by omega⟩ (fun k => ?_) (fun k => ?_)).trans (congrArg _ ?_)
      all_goals first | (pointwise; done) | (blk_ext; done)
    · refine (chunk _ (iblk m c 2 t) (iblk m c 3 t) _ _ _ _ ⟨512 + x1, by omega⟩ (fun k => ?_) (fun k => ?_)).trans (congrArg _ ?_)
      all_goals first | (pointwise; done) | (blk_ext; done)
    · refine (chunk _ (iblk m c 2 t) (iblk m c 3 t) _ _ _ _ ⟨256 + x1, by omega⟩ (fun k => ?_) (fun k => ?_)).trans (congrArg _ ?_)
      all_goals first | (pointwise; done) | (blk_ext; done)
    · refine (chunk _ (iblk m c 2 t) (iblk m c 3 t) _ _ _ _ ⟨0 + x1, by omega⟩ (fun k => ?_) (fun k => ?_)).trans (congrArg _ ?_)
      all_goals first | (pointwise; done) | (blk_ext; done)
  · exact View.cover_of_tiledL _ S1024x256.size (by sl_kernel_rfl)
  idx_vars y
  have ht : (t : ℕ) < 32 := t.isLt
  refine (result_block _ _ _ _ _ _ _ _ _ (fun r => ⟨t.val * 1024 + r, by omega⟩) (fun r k => ?_) (fun k => ?_) (fun k q => ?_) (fun k q => ?_) (fun q j => ?_) y0 y1).trans (congrArg _ ?_)
  · pointwise [rows]
    blk_point [iblk, V, idx t]
  · blk_point [iblk, V, idx t]
  · blk_point [iblk, V, idx t]
  · blk_point [iblk, V, idx t]
  · blk_point [iblk, V, idx t]
  · blk_ext [idx t]
end Cert.FfnIdeal.Value
-- ==== Proof.MixValue.lean ====
module

public import proofs.«01_k».proof.Proof.Gen.MixIdeal.Frame
public import proofs.«01_k».proof.Proof.Gen.MixReferenceIdeal.Run
public import Idealize.ShloMosaic.Lib.Pipeline.ValueKit
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)

/-! The gated sum of the two mixers and its projection: the kernel's result is the reference's. -/

namespace Cert.MixIdeal.Value
/-! ## The reference's term -/
section
open Cert.MixReferenceIdeal Cert.MixReferenceIdeal.Gen

/-- The tokens, one row each. -/
def rows (X : FVec Ideal S8x4096x1024 .f32) : FVec Ideal S32768x1024 .f32 := shapeCast _ X shapeCasts_S8x4096x1024_S32768x1024

/-- A mixer's output, one row a token. -/
def half (A : FVec Ideal S8x4096x512 .f32) : FVec Ideal S32768x512 .f32 := shapeCast _ A shapeCasts_S8x4096x512_S32768x512

/-- The reference's normalized tokens. -/
def normed (X : FVec Ideal S8x4096x1024 .f32) (L : FVec Ideal S4x1024 .f32) : FVec Ideal S32768x1024 .f32 :=
  mulf (mulf (rows X) (broadcastInDim S32768x1024 ![0, 1] bcast_S32768x1_S32768x1024_0_1 (Host.rsqrt (addf (Host.divf (broadcastInDim S32768x1 ![0] bcast_S32768_S32768x1_0 (Host.reduceAdd (mulf (rows X) (rows X)) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (shapeCast _ (extractStridedSlice S1x1024 ![0, 0] L slices_S4x1024_S1x1024_0_0) shapeCasts_S1x1024_S1024)))

/-- The reference's input projection. -/
def proj (X : FVec Ideal S8x4096x1024 .f32) (L : FVec Ideal S4x1024 .f32) (W : FVec Ideal S4x1024x3328 .f32) : FVec Ideal S32768x3328 .f32 :=
  Host.dotGeneral dot_S32768x1024_S1024x3328_S32768x3328_1_0_0_1_n_n none (normed X L) (shapeCast _ (extractStridedSlice S1x1024x3328 ![0, 0, 0] W slices_S4x1024x3328_S1x1024x3328_0_0_0) shapeCasts_S1x1024x3328_S1024x3328)

/-- The logistic function as the reference writes it. -/
def sigmoid (z : FVec Ideal S32768x1024 .f32) : FVec Ideal S32768x1024 .f32 :=
  Host.divf (broadcastInDim S32768x1024 ![] bcast_S_S32768x1024 (constant S_ .f32 0x3F800000#32)) (addf (broadcastInDim S32768x1024 ![] bcast_S_S32768x1024 (constant S_ .f32 0x3F800000#32)) (Host.exp (Host.negf z)))

/-- A mixer's output projected to the model's width. -/
def branch (A : FVec Ideal S8x4096x512 .f32) (Wa : FVec Ideal S4x512x1024 .f32) : FVec Ideal S32768x1024 .f32 :=
  Host.dotGeneral dot_S32768x512_S512x1024_S32768x1024_1_0_0_1_n_n none (half A) (shapeCast _ (extractStridedSlice S1x512x1024 ![0, 0, 0] Wa slices_S4x512x1024_S1x512x1024_0_0_0) shapeCasts_S1x512x1024_S512x1024)

/-- The gated sum of the two branches. -/
def mixed (X : FVec Ideal S8x4096x1024 .f32) (A Fo : FVec Ideal S8x4096x512 .f32) (L : FVec Ideal S4x1024 .f32) (W : FVec Ideal S4x1024x3328 .f32) (Wa Wf : FVec Ideal S4x512x1024 .f32) : FVec Ideal S32768x1024 .f32 :=
  addf (mulf (sigmoid (extractStridedSlice S32768x1024 ![0, 1280] (proj X L W) slices_S32768x3328_S32768x1024_0_1280)) (branch A Wa))
    (mulf (sigmoid (extractStridedSlice S32768x1024 ![0, 2304] (proj X L W) slices_S32768x3328_S32768x1024_0_2304)) (branch Fo Wf))

/-- The reference's result. -/
def REF (X : FVec Ideal S8x4096x1024 .f32) (A Fo : FVec Ideal S8x4096x512 .f32) (L : FVec Ideal S4x1024 .f32) (W : FVec Ideal S4x1024x3328 .f32) (Wa Wf : FVec Ideal S4x512x1024 .f32) (Wo : FVec Ideal S4x1024x1024 .f32) : FVec Ideal S32768x1024 .f32 :=
  addf (rows X) (Host.dotGeneral dot_S32768x1024_S1024x1024_S32768x1024_1_0_0_1_n_n none (mixed X A Fo L W Wa Wf) (shapeCast _ (extractStridedSlice S1x1024x1024 ![0, 0, 0] Wo slices_S4x1024x1024_S1x1024x1024_0_0_0) shapeCasts_S1x1024x1024_S1024x1024))

/-- The reference's run ends at this term. -/
theorem res_eq (m : (ℓ : Loc Cert.MixReferenceIdeal.nD Cert.MixReferenceIdeal.τ Cert.MixReferenceIdeal.sig) → Buf (Elt Ideal) ℓ) (c : Dev Cert.MixReferenceIdeal.nD) :
    Cert.MixReferenceIdeal.Value.res_main_v47 m c = REF (m ((c.tc : Thread Cert.MixReferenceIdeal.nD Cert.MixReferenceIdeal.τ).loc Cert.MixReferenceIdeal.main_arg0))
      (m ((c.tc : Thread Cert.MixReferenceIdeal.nD Cert.MixReferenceIdeal.τ).loc Cert.MixReferenceIdeal.main_arg1))
      (m ((c.tc : Thread Cert.MixReferenceIdeal.nD Cert.MixReferenceIdeal.τ).loc Cert.MixReferenceIdeal.main_arg2))
      (m ((c.tc : Thread Cert.MixReferenceIdeal.nD Cert.MixReferenceIdeal.τ).loc Cert.MixReferenceIdeal.main_arg3))
      (m ((c.tc : Thread Cert.MixReferenceIdeal.nD Cert.MixReferenceIdeal.τ).loc Cert.MixReferenceIdeal.main_arg4))
      (m ((c.tc : Thread Cert.MixReferenceIdeal.nD Cert.MixReferenceIdeal.τ).loc Cert.MixReferenceIdeal.main_arg5))
      (m ((c.tc : Thread Cert.MixReferenceIdeal.nD Cert.MixReferenceIdeal.τ).loc Cert.MixReferenceIdeal.main_arg6))
      (m ((c.tc : Thread Cert.MixReferenceIdeal.nD Cert.MixReferenceIdeal.τ).loc Cert.MixReferenceIdeal.main_arg7)) := rfl
end

open Cert.MixIdeal Cert.MixIdeal.Gen

/-- The Fourier mixer's output as the kernel takes it: eight rows of zeros after every 64. -/
def pitched (Fo : FVec Ideal S8x4096x512 .f32) : FVec Ideal S36864x512 .f32 :=
  shapeCast _ (pad S512x72x512 ![0, 0, 0] ![0, 8, 0] ![0, 0, 0] (shapeCast S512x64x512 Fo shapeCasts_S8x4096x512_S512x64x512 : FVec Ideal S512x64x512 .f32) (sitofp .f32 (constantI S_ 32 0#32)) pads_S512x64x512_S512x72x512_000_080_000 h_S_) shapeCasts_S512x72x512_S36864x512

/-- Row `l` of its slab `a` is row `64 a + l` of the output. -/
theorem pitched_at (Fo : FVec Ideal S8x4096x512 .f32) (a : ℕ) (ha : a < 512) (l : ℕ) (hl : l < 64) (q : Fin 512) :
    pitched Fo (ix2 ⟨72 * a + l, by omega⟩ q) = half Fo (ix2 ⟨64 * a + l, by omega⟩ q) := by
  pointwise [pitched, half]
  rw [dif_pos ⟨by omega, by omega⟩]
  refine congrArg Fo (congrFun (congr (congrArg ix3 (Fin.ext ?_)) (Fin.ext ?_)) q)
  all_goals first | omega | (dsimp only; omega)

/-! ## One half block against the reference -/
section
variable (X : FVec Ideal S8x4096x1024 .f32) (A Fo : FVec Ideal S8x4096x512 .f32) (L : FVec Ideal S4x1024 .f32) (W : FVec Ideal S4x1024x3328 .f32) (Wa Wf : FVec Ideal S4x512x1024 .f32) (Wo : FVec Ideal S4x1024x1024 .f32)
  (x : FVec Ideal S512x1024 .f32) (g : FVec Ideal S1x1x1024 .f32) (wa wb : FVec Ideal S1x1024x1024 .bf16) (ao : FVec Ideal S512x512 .bf16) (w5 w6 : FVec Ideal S1x512x1024 .bf16)
  (f0 f1 f2 f3 f4 f5 f6 f7 : FVec Ideal S64x512 .f32) (w7 : FVec Ideal S1x1024x1024 .bf16)
  (R : Fin 512 → Fin 32768)

/-- The half block's normalized rows are the reference's. -/
theorem normed_block (h0 : ∀ r k, x (ix2 r k) = rows X (ix2 (R r) k)) (h1 : ∀ k, g (ix3 0 0 k) = L (ix2 0 k)) (r : Fin 512) (k : Fin 1024) :
    k0_pay3 (F := Ideal) x g (ix2 r k) = (normed X L (ix2 (R r) k) : EReal) := by
  pointwise [k0_pay3, normed]
  simp only [h0, h1]

/-- The attention's gate. -/
theorem gate_a (h0 : ∀ r k, x (ix2 r k) = rows X (ix2 (R r) k)) (h1 : ∀ k, g (ix3 0 0 k) = L (ix2 0 k))
    (ha : ∀ k (j : Fin 1024), wa (ix3 0 k j) = W (ix3 0 k ⟨1280 + j, by omega⟩)) (r : Fin 512) (j : Fin 1024) :
    k0_pay4 (F := Ideal) x g wa (ix2 r j) = (sigmoid (extractStridedSlice Cert.MixReferenceIdeal.S32768x1024 ![0, 1280] (proj X L W) Cert.MixReferenceIdeal.Gen.slices_S32768x3328_S32768x1024_0_1280) (ix2 (R r) j) : EReal) := by
  pointwise [k0_pay4, sigmoid, proj]
  simp only [normed_block X L x g R h0 h1, ha]
  rfl

/-- The Fourier mixer's gate. -/
theorem gate_f (h0 : ∀ r k, x (ix2 r k) = rows X (ix2 (R r) k)) (h1 : ∀ k, g (ix3 0 0 k) = L (ix2 0 k))
    (hb : ∀ k (j : Fin 1024), wb (ix3 0 k j) = W (ix3 0 k ⟨2304 + j, by omega⟩)) (r : Fin 512) (j : Fin 1024) :
    k0_pay5 (F := Ideal) x g wb (ix2 r j) = (sigmoid (extractStridedSlice Cert.MixReferenceIdeal.S32768x1024 ![0, 2304] (proj X L W) Cert.MixReferenceIdeal.Gen.slices_S32768x3328_S32768x1024_0_2304) (ix2 (R r) j) : EReal) := by
  pointwise [k0_pay5, sigmoid, proj]
  simp only [normed_block X L x g R h0 h1, hb]
  rfl

/-- The attention's branch. -/
theorem branch_a (hao : ∀ r k, ao (ix2 r k) = half A (ix2 (R r) k)) (h5 : ∀ k j, w5 (ix3 0 k j) = Wa (ix3 0 k j)) (r : Fin 512) (j : Fin 1024) :
    k0_pay6 (F := Ideal) ao w5 (ix2 r j) = (branch A Wa (ix2 (R r) j) : EReal) := by
  pointwise [k0_pay6, branch]
  simp only [hao, h5]

/-- The eight slabs of the Fourier mixer's output, one under the other. -/
def slabs : FVec Ideal S512x512 .f32 :=
  concatenate S512x512 0 [⟨S64x512, (shapeCast S64x512 f0 shapeCasts_S64x512_S64x512 : FVec Ideal S64x512 .f32)⟩, ⟨S64x512, (shapeCast S64x512 f1 shapeCasts_S64x512_S64x512 : FVec Ideal S64x512 .f32)⟩, ⟨S64x512, (shapeCast S64x512 f2 shapeCasts_S64x512_S64x512 : FVec Ideal S64x512 .f32)⟩, ⟨S64x512, (shapeCast S64x512 f3 shapeCasts_S64x512_S64x512 : FVec Ideal S64x512 .f32)⟩, ⟨S64x512, (shapeCast S64x512 f4 shapeCasts_S64x512_S64x512 : FVec Ideal S64x512 .f32)⟩, ⟨S64x512, (shapeCast S64x512 f5 shapeCasts_S64x512_S64x512 : FVec Ideal S64x512 .f32)⟩, ⟨S64x512, (shapeCast S64x512 f6 shapeCasts_S64x512_S64x512 : FVec Ideal S64x512 .f32)⟩, ⟨S64x512, (shapeCast S64x512 f7 shapeCasts_S64x512_S64x512 : FVec Ideal S64x512 .f32)⟩] concatenates_S64x512_S64x512_S64x512_S64x512_S64x512_S64x512_S64x512_S64x512_S512x512_d0

/-- The slabs hold the output's rows when each does. -/
theorem slabs_at (G : Fin 512 → Fin 512 → EReal)
    (e0 : ∀ (l : Fin 64) q, f0 (ix2 l q) = G ⟨l, by omega⟩ q) (e1 : ∀ (l : Fin 64) q, f1 (ix2 l q) = G ⟨64 + l, by omega⟩ q)
    (e2 : ∀ (l : Fin 64) q, f2 (ix2 l q) = G ⟨128 + l, by omega⟩ q) (e3 : ∀ (l : Fin 64) q, f3 (ix2 l q) = G ⟨192 + l, by omega⟩ q)
    (e4 : ∀ (l : Fin 64) q, f4 (ix2 l q) = G ⟨256 + l, by omega⟩ q) (e5 : ∀ (l : Fin 64) q, f5 (ix2 l q) = G ⟨320 + l, by omega⟩ q)
    (e6 : ∀ (l : Fin 64) q, f6 (ix2 l q) = G ⟨384 + l, by omega⟩ q) (e7 : ∀ (l : Fin 64) q, f7 (ix2 l q) = G ⟨448 + l, by omega⟩ q)
    (r q : Fin 512) : slabs f0 f1 f2 f3 f4 f5 f6 f7 (ix2 r q) = G r q := by
  pointwise [slabs]
  split_ifs
  all_goals first
    | exact (e0 _ _).trans (congrArg (G · q) (Fin.ext (by first | rfl | omega | (dsimp only; omega))))
    | exact (e1 _ _).trans (congrArg (G · q) (Fin.ext (by first | rfl | omega | (dsimp only; omega))))
    | exact (e2 _ _).trans (congrArg (G · q) (Fin.ext (by first | rfl | omega | (dsimp only; omega))))
    | exact (e3 _ _).trans (congrArg (G · q) (Fin.ext (by first | rfl | omega | (dsimp only; omega))))
    | exact (e4 _ _).trans (congrArg (G · q) (Fin.ext (by first | rfl | omega | (dsimp only; omega))))
    | exact (e5 _ _).trans (congrArg (G · q) (Fin.ext (by first | rfl | omega | (dsimp only; omega))))
    | exact (e6 _ _).trans (congrArg (G · q) (Fin.ext (by first | rfl | omega | (dsimp only; omega))))
    | exact (e7 _ _).trans (congrArg (G · q) (Fin.ext (by first | rfl | omega | (dsimp only; omega))))

/-- The Fourier mixer's branch, from the slabs. -/
def branchF : FVec Ideal S512x1024 .f32 := k0_pay6 (F := Ideal) (truncf .bf16 (slabs f0 f1 f2 f3 f4 f5 f6 f7) bitsLt_bf16_f32) w6

/-- What the body stores from the gates, the branches and the output weights. -/
def store (ga gf a b : FVec Ideal S512x1024 .f32) : FVec Ideal S512x1024 .f32 :=
  k0_pay1 (F := Ideal) (truncf .bf16 (addf (mulf ga a) (mulf gf b)) bitsLt_bf16_f32) x w7

/-- The first half block's store, read as that. -/
theorem lower_eq : k0_pay1 (F := Ideal) (k0_pay8 (k0_pay4 x g wa) (k0_pay5 x g wb) (k0_pay6 ao w5) (k0_pay7 f0) f1 f2 f3 f4 f5 f6 f7 w6) x w7
    = store x w7 (k0_pay4 x g wa) (k0_pay5 x g wb) (k0_pay6 ao w5) (branchF w6 f0 f1 f2 f3 f4 f5 f6 f7) := by
  unfold store branchF k0_pay8 k0_pay7 slabs k0_pay6
  simp only [shapeCast_self]

/-- The second half block's store, read as that. -/
theorem upper_eq : k0_pay2 (F := Ideal) (k0_pay12 (k0_pay9 g) (k0_pay10 x) wa) (k0_pay13 (k0_pay9 g) (k0_pay10 x) wb) (k0_pay14 ao w5) (k0_pay15 f0) (k0_pay16 f1) (k0_pay17 f2) (k0_pay18 f3) (k0_pay19 f4) (k0_pay20 f5) (k0_pay21 f6) f7 w6 x w7
    = store x w7 (k0_pay4 x g wa) (k0_pay5 x g wb) (k0_pay6 ao w5) (branchF w6 f0 f1 f2 f3 f4 f5 f6 f7) := by
  unfold store branchF k0_pay2 k0_pay1 k0_pay12 k0_pay13 k0_pay14 k0_pay15 k0_pay16 k0_pay17 k0_pay18 k0_pay19 k0_pay20 k0_pay21 slabs k0_pay4 k0_pay5 k0_pay6 k0_pay11 k0_pay9 k0_pay10 k0_pay3
  simp only [shapeCast_self]

/-- What a half block stores is the reference's result at its rows. -/
theorem store_at (h0 : ∀ r k, x (ix2 r k) = rows X (ix2 (R r) k)) (h1 : ∀ k, g (ix3 0 0 k) = L (ix2 0 k))
    (ha : ∀ k (j : Fin 1024), wa (ix3 0 k j) = W (ix3 0 k ⟨1280 + j, by omega⟩))
    (hb : ∀ k (j : Fin 1024), wb (ix3 0 k j) = W (ix3 0 k ⟨2304 + j, by omega⟩))
    (hao : ∀ r k, ao (ix2 r k) = half A (ix2 (R r) k)) (h5 : ∀ k j, w5 (ix3 0 k j) = Wa (ix3 0 k j)) (h6 : ∀ k j, w6 (ix3 0 k j) = Wf (ix3 0 k j))
    (h7 : ∀ k j, w7 (ix3 0 k j) = Wo (ix3 0 k j))
    (e0 : ∀ (l : Fin 64) q, f0 (ix2 l q) = half Fo (ix2 (R ⟨l, by omega⟩) q)) (e1 : ∀ (l : Fin 64) q, f1 (ix2 l q) = half Fo (ix2 (R ⟨64 + l, by omega⟩) q))
    (e2 : ∀ (l : Fin 64) q, f2 (ix2 l q) = half Fo (ix2 (R ⟨128 + l, by omega⟩) q)) (e3 : ∀ (l : Fin 64) q, f3 (ix2 l q) = half Fo (ix2 (R ⟨192 + l, by omega⟩) q))
    (e4 : ∀ (l : Fin 64) q, f4 (ix2 l q) = half Fo (ix2 (R ⟨256 + l, by omega⟩) q)) (e5 : ∀ (l : Fin 64) q, f5 (ix2 l q) = half Fo (ix2 (R ⟨320 + l, by omega⟩) q))
    (e6 : ∀ (l : Fin 64) q, f6 (ix2 l q) = half Fo (ix2 (R ⟨384 + l, by omega⟩) q)) (e7 : ∀ (l : Fin 64) q, f7 (ix2 l q) = half Fo (ix2 (R ⟨448 + l, by omega⟩) q))
    (r : Fin 512) (j : Fin 1024) :
    store x w7 (k0_pay4 x g wa) (k0_pay5 x g wb) (k0_pay6 ao w5) (branchF w6 f0 f1 f2 f3 f4 f5 f6 f7) (ix2 r j) = REF X A Fo L W Wa Wf Wo (ix2 (R r) j) := by
  have hf := branch_a Fo Wf (truncf .bf16 (slabs f0 f1 f2 f3 f4 f5 f6 f7) bitsLt_bf16_f32) w6 R
    (slabs_at f0 f1 f2 f3 f4 f5 f6 f7 (fun r q => half Fo (ix2 (R r) q)) e0 e1 e2 e3 e4 e5 e6 e7) h6
  pointwise [store, k0_pay1, REF, mixed, branchF]
  simp only [h0, h7, gate_a X L W x g wa R h0 h1 ha, gate_f X L W x g wb R h0 h1 hb, branch_a A Wa ao w5 R hao h5, hf]
end

/-- A load out of two axes. -/
theorem ld2 {φ : EltTy} {n1 n2 k1 k2 : ℕ} (B : (⟨2, ![n1, n2]⟩ : Shape).Idx → Elt Ideal φ) (o o' : ℕ) (inb) (a : Fin k1) (b : Fin k2)
    (h : o + k1 ≤ n1) (h' : o' + k2 ≤ n2) :
    View.ld B (Rect.unit (s := ⟨2, ![n1, n2]⟩) ![o, o'] ![k1, k2] inb) (ix2 a b) = B (ix2 ⟨o + a.val, by omega⟩ ⟨o' + b.val, by omega⟩) := by
  refine View.ld_unit_apply_of B _ _ inb _ _ fun i => ?_
  fin_cases i <;> rfl

/-- A load out of three axes, the first of one entry. -/
theorem ld3 {φ : EltTy} {n1 n2 k1 k2 : ℕ} (B : (⟨3, ![1, n1, n2]⟩ : Shape).Idx → Elt Ideal φ) (o o' : ℕ) (inb) (a : Fin k1) (b : Fin k2)
    (h : o + k1 ≤ n1) (h' : o' + k2 ≤ n2) :
    View.ld B (Rect.unit (s := ⟨3, ![1, n1, n2]⟩) ![0, o, o'] ![1, k1, k2] inb) (ix3 0 a b) = B (ix3 0 ⟨o + a.val, by omega⟩ ⟨o' + b.val, by omega⟩) := by
  refine View.ld_unit_apply_of B _ _ inb _ _ fun i => ?_
  fin_cases i <;> rfl

/-- The windows' blocks at each grid point. -/
theorem idx : ∀ t : Fin cfg0.N, win0_0.index t = ![t.val, 0] ∧ win0_1.index t = ![t.val, 0] ∧ win0_2.index t = ![t.val, 0]
    ∧ win0_3.index t = ![0, 0, 0] ∧ win0_4.index t = ![0, 0, 0] ∧ win0_5.index t = ![0, 0, 0] ∧ win0_6.index t = ![0, 0, 0] ∧ win0_7.index t = ![0, 0, 0] ∧ win0_8.index t = ![t.val, 0] := by
  decide +kernel

/-- There are 32 grid points. -/
theorem point_lt (t : Fin cfg0.N) : t.val < 32 := t.isLt

variable (m : (ℓ : Loc nD τ sig) → Buf (Elt Ideal) ℓ)

/-- A read through window 0, whatever the array. -/
theorem read0_at (t : Fin cfg0.N) (r : Fin 1024) (q : Fin 1024) (B) :
    ((cfg0.win 0).blk t).view.read (Elt Ideal) B (ix2 r q) = B (ix2 ⟨1024 * t.val + r.val, by have := point_lt t; omega⟩ q) := by
  have := point_lt t
  blk_ext [idx t]

/-- A read through window 1, whatever the array. -/
theorem read1_at (t : Fin cfg0.N) (r : Fin 1024) (q : Fin 512) (B) :
    ((cfg0.win 1).blk t).view.read (Elt Ideal) B (ix2 r q) = B (ix2 ⟨1024 * t.val + r.val, by have := point_lt t; omega⟩ q) := by
  have := point_lt t
  blk_ext [idx t]

/-- A read through window 3, whatever the array. -/
theorem read3_at (t : Fin cfg0.N) (k : Fin 1024) (B) :
    ((cfg0.win 3).blk t).view.read (Elt Ideal) B (ix3 0 0 k) = B (ix3 0 0 k) := by
  blk_ext [idx t]

/-- The kernel is called on the tokens' rows. -/
theorem V_x (c : Dev nD) (i) : V m c main_v3 i = rows (m ((c : Thread nD τ).loc main_arg0)) i := rfl

/-- The kernel is called on the attention's rows. -/
theorem V_ao (c : Dev nD) (i) : V m c main_v5 i = half (m ((c : Thread nD τ).loc main_arg1)) i := rfl

/-- The gains as the kernel takes them. -/
def gains (L : FVec Ideal S4x1024 .f32) : FVec Ideal S4x1x1024 .f32 := shapeCast S4x1x1024 L shapeCasts_S4x1024_S4x1x1024

/-- The first layer's gain. -/
theorem gains_at (L : FVec Ideal S4x1024 .f32) (k : Fin 1024) : gains L (ix3 0 0 k) = L (ix2 0 k) := by
  pointwise [gains]

/-- The kernel is called on the gains. -/
theorem V_gain (c : Dev nD) : V m c main_v6 = gains (m ((c : Thread nD τ).loc main_arg3)) := rfl

/-- The token window's rows. -/
theorem x_at (c : Dev nD) (t : Fin cfg0.N) (o : ℕ) (ho : o + 512 ≤ 1024) (inb) (r : Fin 512) (k : Fin 1024) :
    View.ld (iblk m c 0 t) (Rect.unit (s := S1024x1024) ![o, 0] S512x1024.size inb) (ix2 r k)
      = rows (m ((c : Thread nD τ).loc main_arg0)) (ix2 ⟨t.val * 1024 + o + r.val, by have := point_lt t; omega⟩ k) := by
  have := point_lt t
  refine (ld2 (φ := .f32) (iblk m c 0 t) o 0 inb r k ho (by omega)).trans ?_
  refine (read0_at t _ _ _).trans ((V_x m c _).trans (congrArg (rows _) ?_))
  exact congrArg₂ ix2 (Fin.ext (by dsimp only; omega)) (Fin.ext (by dsimp only; omega))

/-- The attention window's rows. -/
theorem ao_at (c : Dev nD) (t : Fin cfg0.N) (o : ℕ) (ho : o + 512 ≤ 1024) (inb) (r : Fin 512) (k : Fin 512) :
    View.ld (iblk m c 1 t) (Rect.unit (s := S1024x512) ![o, 0] S512x512.size inb) (ix2 r k)
      = half (m ((c : Thread nD τ).loc main_arg1)) (ix2 ⟨t.val * 1024 + o + r.val, by have := point_lt t; omega⟩ k) := by
  have := point_lt t
  refine (ld2 (φ := .bf16) (iblk m c 1 t) o 0 inb r k ho (by omega)).trans ?_
  refine (read1_at t _ _ _).trans ((V_ao m c _).trans (congrArg (half _) ?_))
  exact congrArg₂ ix2 (Fin.ext (by dsimp only; omega)) (Fin.ext (by dsimp only; omega))

/-- A read through window 2, whatever the array. -/
theorem read2_at (t : Fin cfg0.N) (r : Fin 1152) (q : Fin 512) (B) :
    ((cfg0.win 2).blk t).view.read (Elt Ideal) B (ix2 r q) = B (ix2 ⟨1152 * t.val + r.val, by have := point_lt t; omega⟩ q) := by
  have := point_lt t
  blk_ext [idx t]

/-- The kernel is called on the padded output. -/
theorem V_pitched (c : Dev nD) : V m c main_v2 = pitched (m ((c : Thread nD τ).loc main_arg2)) := rfl

/-- The Fourier window's slabs. -/
theorem slab_at (c : Dev nD) (t : Fin cfg0.N) (a : ℕ) (ha : a < 16) (o : ℕ) (ho : o = 72 * a) (inb) (l : Fin 64) (q : Fin 512) (R : Fin 32768) (hR : R.val = t.val * 1024 + 64 * a + l.val) :
    View.ld (iblk m c 2 t) (Rect.unit (s := S1152x512) ![o, 0] S64x512.size inb) (ix2 l q)
      = half (m ((c : Thread nD τ).loc main_arg2)) (ix2 R q) := by
  have := point_lt t
  subst ho
  refine (ld2 (φ := .f32) (iblk m c 2 t) (72 * a) 0 inb l q (by omega) (by omega)).trans ?_
  refine (read2_at t _ _ _).trans ((congrFun (V_pitched m c) _).trans ?_)
  refine Eq.trans (congrArg (pitched _) ?_) ((pitched_at _ (16 * t.val + a) (by omega) l.val l.isLt q).trans (congrArg (half _) ?_))
  · exact congrArg₂ ix2 (Fin.ext (by dsimp only; omega)) (Fin.ext (by dsimp only; omega))
  · exact congrArg (fun r => ix2 r q) (Fin.ext (by dsimp only; omega))

/-- The gain's window. -/
theorem gain_at (c : Dev nD) (t : Fin cfg0.N) (inb) (k : Fin 1024) :
    View.ld (iblk m c 3 t) (Rect.unit (s := S1x1x1024) ![0, 0, 0] S1x1x1024.size inb) (ix3 0 0 k) = m ((c : Thread nD τ).loc main_arg3) (ix2 0 k) := by
  refine (ld3 (φ := .f32) (iblk m c 3 t) 0 0 inb 0 k (by omega) (by omega)).trans ?_
  refine (read3_at t _ _).trans ((congrFun (V_gain m c) _).trans ((gains_at _ _).trans ?_))
  exact congrArg (ix2 0 · |> m ((c : Thread nD τ).loc main_arg3)) (Fin.ext (by dsimp only; omega))

/-- The input weights' window, the attention's gate. -/
theorem wa_at (c : Dev nD) (t : Fin cfg0.N) (inb) (k : Fin 1024) (j : Fin 1024) :
    View.ld (iblk m c 4 t) (Rect.unit (s := S1x1024x3328) ![0, 0, 1280] S1x1024x1024.size inb) (ix3 0 k j) = m ((c : Thread nD τ).loc main_arg4) (ix3 0 k ⟨1280 + j, by omega⟩) := by
  refine (ld3 (φ := .bf16) (iblk m c 4 t) 0 1280 inb k j (by omega) (by omega)).trans ?_
  blk_point [iblk, V, idx t]

/-- The input weights' window, the Fourier mixer's gate. -/
theorem wb_at (c : Dev nD) (t : Fin cfg0.N) (inb) (k : Fin 1024) (j : Fin 1024) :
    View.ld (iblk m c 4 t) (Rect.unit (s := S1x1024x3328) ![0, 0, 2304] S1x1024x1024.size inb) (ix3 0 k j) = m ((c : Thread nD τ).loc main_arg4) (ix3 0 k ⟨2304 + j, by omega⟩) := by
  refine (ld3 (φ := .bf16) (iblk m c 4 t) 0 2304 inb k j (by omega) (by omega)).trans ?_
  blk_point [iblk, V, idx t]

/-- The attention branch's weights. -/
theorem w5_at (c : Dev nD) (t : Fin cfg0.N) (inb) (k : Fin 512) (j : Fin 1024) :
    View.ld (iblk m c 5 t) (Rect.unit (s := S1x512x1024) ![0, 0, 0] S1x512x1024.size inb) (ix3 0 k j) = m ((c : Thread nD τ).loc main_arg5) (ix3 0 k j) := by
  refine (ld3 (φ := .bf16) (iblk m c 5 t) 0 0 inb k j (by omega) (by omega)).trans ?_
  blk_point [iblk, V, idx t]

/-- The Fourier branch's weights. -/
theorem w6_at (c : Dev nD) (t : Fin cfg0.N) (inb) (k : Fin 512) (j : Fin 1024) :
    View.ld (iblk m c 6 t) (Rect.unit (s := S1x512x1024) ![0, 0, 0] S1x512x1024.size inb) (ix3 0 k j) = m ((c : Thread nD τ).loc main_arg6) (ix3 0 k j) := by
  refine (ld3 (φ := .bf16) (iblk m c 6 t) 0 0 inb k j (by omega) (by omega)).trans ?_
  blk_point [iblk, V, idx t]

/-- The output weights. -/
theorem w7_at (c : Dev nD) (t : Fin cfg0.N) (inb) (k : Fin 1024) (j : Fin 1024) :
    View.ld (iblk m c 7 t) (Rect.unit (s := S1x1024x1024) ![0, 0, 0] S1x1024x1024.size inb) (ix3 0 k j) = m ((c : Thread nD τ).loc main_arg7) (ix3 0 k j) := by
  refine (ld3 (φ := .bf16) (iblk m c 7 t) 0 0 inb k j (by omega) (by omega)).trans ?_
  blk_point [iblk, V, idx t]

/-- Pieces of one tensor that cover an index hold its value there. -/
theorem canon_of_piecesOf {s : Shape} {e : EltTy} (G : s.Idx → Elt Ideal e) (P : List (View.Piece (Elt Ideal) s e)) (h : View.PiecesOf G P) (y : s.Idx)
    (hc : ∃ p ∈ P, y ∈ p.1.set) : View.canon P y = G y := by
  have A := View.canon_append_of_piecesOf G [] P h y hc
  rwa [List.append_nil] at A

/-- The result's rows at a grid point. -/
def block (t : Fin cfg0.N) (G : FVec Ideal Cert.MixReferenceIdeal.S32768x1024 .f32) : S1024x1024.Idx → Elt Ideal .f32 :=
  fun y => G (ix2 ⟨t.val * 1024 + (y 0).val, by have := point_lt t; have : (y 0).val < 1024 := (y 0).isLt; omega⟩ (y 1))

/-- After the last grid point the output array holds the reference's result. -/
theorem final (c : Dev nD) : (dats m 0 c).arrAt 8 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]
  unfold out0_8 k0_pay23 k0_pay22
  have ht := point_lt t
  refine (canon_of_piecesOf (block t (REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))) _ ?_ y (cover0_8 _ _ y)).trans ?_
  · refine ⟨?_, ?_, trivial⟩
    · intro z
      idx_vars z
      refine (congrFun (upper_eq _ _ _ _ _ _ _ _ _ _ _ _ _ _ _ _) _).trans ((store_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
        _ _ _ _ _ _ _ _ _ _ _ _ _ _ _ _ (fun r => ⟨t.val * 1024 + 512 + r.val, by omega⟩) (fun r k => x_at m c t 512 (by omega) _ r k) (gain_at m c t _) (wa_at m c t _) (wb_at m c t _) (fun r k => ao_at m c t 512 (by omega) _ r k) (w5_at m c t _) (w6_at m c t _) (w7_at m c t _)
        (fun l q => slab_at m c t 8 (by omega) _ rfl _ l q _ (by dsimp only <;> omega)) (fun l q => slab_at m c t 9 (by omega) _ rfl _ l q _ (by dsimp only <;> omega)) (fun l q => slab_at m c t 10 (by omega) _ rfl _ l q _ (by dsimp only <;> omega)) (fun l q => slab_at m c t 11 (by omega) _ rfl _ l q _ (by dsimp only <;> omega)) (fun l q => slab_at m c t 12 (by omega) _ rfl _ l q _ (by dsimp only <;> omega)) (fun l q => slab_at m c t 13 (by omega) _ rfl _ l q _ (by dsimp only <;> omega)) (fun l q => slab_at m c t 14 (by omega) _ rfl _ l q _ (by dsimp only <;> omega)) (fun l q => slab_at m c t 15 (by omega) _ rfl _ l q _ (by dsimp only <;> omega)) z0 z1).trans ?_)
      refine congrArg (REF _ _ _ _ _ _ _ _) (congrArg₂ ix2 (Fin.ext ?_) (Fin.ext ?_))
      · show _ = t.val * 1024 + (512 + 1 * z0.val)
        dsimp only
        omega
      · show _ = 0 + 1 * z1.val
        omega
    · intro z
      idx_vars z
      refine (congrFun (lower_eq _ _ _ _ _ _ _ _ _ _ _ _ _ _ _ _) _).trans ((store_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
        _ _ _ _ _ _ _ _ _ _ _ _ _ _ _ _ (fun r => ⟨t.val * 1024 + 0 + r.val, by omega⟩) (fun r k => x_at m c t 0 (by omega) _ r k) (gain_at m c t _) (wa_at m c t _) (wb_at m c t _) (fun r k => ao_at m c t 0 (by omega) _ r k) (w5_at m c t _) (w6_at m c t _) (w7_at m c t _)
        (fun l q => slab_at m c t 0 (by omega) _ rfl _ l q _ (by dsimp only <;> omega)) (fun l q => slab_at m c t 1 (by omega) _ rfl _ l q _ (by dsimp only <;> omega)) (fun l q => slab_at m c t 2 (by omega) _ rfl _ l q _ (by dsimp only <;> omega)) (fun l q => slab_at m c t 3 (by omega) _ rfl _ l q _ (by dsimp only <;> omega)) (fun l q => slab_at m c t 4 (by omega) _ rfl _ l q _ (by dsimp only <;> omega)) (fun l q => slab_at m c t 5 (by omega) _ rfl _ l q _ (by dsimp only <;> omega)) (fun l q => slab_at m c t 6 (by omega) _ rfl _ l q _ (by dsimp only <;> omega)) (fun l q => slab_at m c t 7 (by omega) _ rfl _ l q _ (by dsimp only <;> omega)) z0 z1).trans ?_)
      refine congrArg (REF _ _ _ _ _ _ _ _) (congrArg₂ ix2 (Fin.ext ?_) (Fin.ext ?_))
      · show _ = t.val * 1024 + (0 + 1 * z0.val)
        dsimp only
        omega
      · show _ = 0 + 1 * z1.val
        omega
  · idx_vars y
    refine congrArg (REF _ _ _ _ _ _ _ _) ?_
    blk_ext [idx t]
end Cert.MixIdeal.Value
-- ==== Proof.AttnRef.lean ====
module

public import proofs.«01_k».proof.Proof.Gen.ReferenceIdeal.Run
public import Idealize.ShloMosaic.Lib.Pipeline.ValueKit
public import Idealize.ShloMosaic.Lib.ValueIdxRank6

@[expose] public section

set_option maxRecDepth 16384
noncomputable section
open Idealize.ShloMosaic Idealize.ShloMosaic.TcCoe

/-! The plain windowed attention, its result at one query, one head and one lane. -/

namespace Cert.ReferenceIdeal.Value
open Cert.ReferenceIdeal Cert.ReferenceIdeal.Gen

/-- The queries, scaled, in blocks. -/
def qblocks (Q : FVec Ideal S8x4096x8x64 .f32) : FVec Ideal S8x32x128x2x4x64 .f32 :=
  shapeCast _ (mulf Q (broadcastInDim S8x4096x8x64 ![] bcast_S_S8x4096x8x64 (constant S_ .f32 0x3E000000#32))) shapeCasts_S8x4096x8x64_S8x32x128x2x4x64

/-- Keys or values in blocks, one block of zeros before and one after. -/
def padded (K : FVec Ideal S8x4096x2x64 .f32) : FVec Ideal S8x34x128x2x64 .f32 :=
  shapeCast _ (pad S8x4352x2x64 ![0, 128, 0, 0] ![0, 128, 0, 0] ![0, 0, 0, 0] K (sitofp .f32 (constantI S_ 32 0#32)) pads_S8x4096x2x64_S8x4352x2x64_000_1281280_000_000 h_S_) shapeCasts_S8x4352x2x64_S8x34x128x2x64

/-- Each block's window: the block before, itself, the block after. -/
def window (K : FVec Ideal S8x4096x2x64 .f32) : FVec Ideal S8x32x384x2x64 .f32 :=
  concatenate S8x32x384x2x64 2 [⟨S8x32x128x2x64, extractStridedSlice S8x32x128x2x64 ![0, 0, 0, 0, 0] (padded K) slices_S8x34x128x2x64_S8x32x128x2x64_0_0_0_0_0⟩,
    ⟨S8x32x128x2x64, extractStridedSlice S8x32x128x2x64 ![0, 1, 0, 0, 0] (padded K) slices_S8x34x128x2x64_S8x32x128x2x64_0_1_0_0_0⟩,
    ⟨S8x32x128x2x64, extractStridedSlice S8x32x128x2x64 ![0, 2, 0, 0, 0] (padded K) slices_S8x34x128x2x64_S8x32x128x2x64_0_2_0_0_0⟩] concatenates_S8x32x128x2x64_S8x32x128x2x64_S8x32x128x2x64_S8x32x384x2x64_d2

/-- How far a key of the window is from a query of the block. -/
def dist : IVec S128x384 32 :=
  absi (subi (broadcastInDim S128x384 ![0, 1] bcast_S128x1_S128x384_0_1 (addi (broadcastInDim S128x1 ![0] bcast_S128_S128x1_0 (iotaInDim S128 32 0)) (broadcastInDim S128x1 ![] bcast_S_S128x1 (constantI S_ 32 128#32))))
    (broadcastInDim S128x384 ![0, 1] bcast_S1x384_S128x384_0_1 (broadcastInDim S1x384 ![1] bcast_S384_S1x384_1 (iotaInDim S384 32 0))))

/-- The position of a window's key in the sequence. -/
def keyPos : IVec S32x384 32 :=
  addi (broadcastInDim S32x384 ![0, 1] bcast_S32x1_S32x384_0_1 (subi (muli (broadcastInDim S32x1 ![0] bcast_S32_S32x1_0 (iotaInDim S32 32 0)) (broadcastInDim S32x1 ![] bcast_S_S32x1 (constantI S_ 32 128#32))) (broadcastInDim S32x1 ![] bcast_S_S32x1 (constantI S_ 32 128#32))))
    (broadcastInDim S32x384 ![0, 1] bcast_S1x384_S32x384_0_1 (broadcastInDim S1x384 ![1] bcast_S384_S1x384_1 (iotaInDim S384 32 0)))

/-- Which keys a query sees. -/
def valid : IVec S32x128x384 1 :=
  andi (broadcastInDim S32x128x384 ![0, 1, 2] bcast_S1x128x384_S32x128x384_0_1_2 (broadcastInDim S1x128x384 ![1, 2] bcast_S128x384_S1x128x384_1_2 (cmpi .sle dist (broadcastInDim S128x384 ![] bcast_S_S128x384 (constantI S_ 32 128#32)))))
    (broadcastInDim S32x128x384 ![0, 1, 2] bcast_S32x1x384_S32x128x384_0_1_2 (broadcastInDim S32x1x384 ![0, 2] bcast_S32x384_S32x1x384_0_2
      (andi (cmpi .sge keyPos (broadcastInDim S32x384 ![] bcast_S_S32x384 (constantI S_ 32 0#32))) (cmpi .slt keyPos (broadcastInDim S32x384 ![] bcast_S_S32x384 (constantI S_ 32 4096#32))))))

/-- The heads' slopes. -/
def slopes : FVec Ideal S2x4 .f32 := shapeCast _ ((fun i => FloatOps.ofBits .f32 (lit0 (S8.rowMajor i)) : FVec Ideal S8 .f32)) shapeCasts_S8_S2x4

/-- The scores of the queries and their windows' keys. -/
def score (Q : FVec Ideal S8x4096x8x64 .f32) (K : FVec Ideal S8x4096x2x64 .f32) : FVec Ideal S8x32x2x4x128x384 .f32 :=
  transpose S8x32x2x4x128x384 [0, 1, 2, 5, 4, 3] (Host.dotGeneral dot_S8x32x384x2x64_S8x32x128x2x4x64_S8x32x2x384x128x4_4_5_2_24_013_013 none (window K) (qblocks Q)) transposes_S8x32x2x384x128x4_S8x32x2x4x128x384_0_1_2_5_4_3

/-- The linear bias, one number per head, query and key. -/
def bias : FVec Ideal S8x32x2x4x128x384 .f32 :=
  broadcastInDim S8x32x2x4x128x384 ![0, 1, 2, 3, 4, 5] bcast_S1x1x2x4x128x384_S8x32x2x4x128x384_0_1_2_3_4_5 (broadcastInDim S1x1x2x4x128x384 ![2, 3, 4, 5] bcast_S2x4x128x384_S1x1x2x4x128x384_2_3_4_5
    (mulf (broadcastInDim S2x4x128x384 ![0, 1, 2, 3] bcast_S2x4x1x1_S2x4x128x384_0_1_2_3 (broadcastInDim S2x4x1x1 ![0, 1] bcast_S2x4_S2x4x1x1_0_1 slopes))
      (broadcastInDim S2x4x128x384 ![0, 1, 2, 3] bcast_S1x1x128x384_S2x4x128x384_0_1_2_3 (broadcastInDim S1x1x128x384 ![2, 3] bcast_S128x384_S1x1x128x384_2_3 (sitofp .f32 dist)))))

/-- The biased scores, minus infinity where the key is not seen. -/
def masked (Q : FVec Ideal S8x4096x8x64 .f32) (K : FVec Ideal S8x4096x2x64 .f32) : FVec Ideal S8x32x2x4x128x384 .f32 :=
  select (broadcastInDim S8x32x2x4x128x384 ![0, 1, 2, 3, 4, 5] bcast_S1x32x1x1x128x384_S8x32x2x4x128x384_0_1_2_3_4_5 (broadcastInDim S1x32x1x1x128x384 ![1, 4, 5] bcast_S32x128x384_S1x32x1x1x128x384_1_4_5 valid))
    (subf (score Q K) bias) (broadcastInDim S8x32x2x4x128x384 ![] bcast_S_S8x32x2x4x128x384 (constant S_ .f32 0xFF800000#32))

/-- The sink logits. -/
def sinks (S : FVec Ideal S8 .f32) : FVec Ideal S8x32x2x4x128x1 .f32 :=
  broadcastInDim S8x32x2x4x128x1 ![0, 1, 2, 3, 4, 5] bcast_S1x1x2x4x1x1_S8x32x2x4x128x1_0_1_2_3_4_5 (broadcastInDim S1x1x2x4x1x1 ![2, 3, 4, 5] bcast_S2x4x1x1_S1x1x2x4x1x1_2_3_4_5
    (broadcastInDim S2x4x1x1 ![0, 1] bcast_S2x4_S2x4x1x1_0_1 (shapeCast _ S shapeCasts_S8_S2x4)))

/-- The largest of a query's scores and its sink. -/
def top (Q : FVec Ideal S8x4096x8x64 .f32) (K : FVec Ideal S8x4096x2x64 .f32) (S : FVec Ideal S8 .f32) : FVec Ideal S8x32x2x4x128x1 .f32 :=
  maximumf (broadcastInDim S8x32x2x4x128x1 ![0, 1, 2, 3, 4] bcast_S8x32x2x4x128_S8x32x2x4x128x1_0_1_2_3_4 (Host.reduce FloatOps.maximumf (masked Q K) (constant S_ .f32 0xFF800000#32) reducesTo_S8x32x2x4x128x384_S8x32x2x4x128_d5 h_S_)) (sinks S)

/-- The unnormalized probabilities. -/
def weights (Q : FVec Ideal S8x4096x8x64 .f32) (K : FVec Ideal S8x4096x2x64 .f32) (S : FVec Ideal S8 .f32) : FVec Ideal S8x32x2x4x128x384 .f32 :=
  Host.exp (subf (masked Q K) (broadcastInDim S8x32x2x4x128x384 ![0, 1, 2, 3, 4, 5] bcast_S8x32x2x4x128x1_S8x32x2x4x128x384_0_1_2_3_4_5 (top Q K S)))

/-- Their sum, the sink's weight with them. -/
def denom (Q : FVec Ideal S8x4096x8x64 .f32) (K : FVec Ideal S8x4096x2x64 .f32) (S : FVec Ideal S8 .f32) : FVec Ideal S8x32x2x4x128x1 .f32 :=
  addf (broadcastInDim S8x32x2x4x128x1 ![0, 1, 2, 3, 4] bcast_S8x32x2x4x128_S8x32x2x4x128x1_0_1_2_3_4 (Host.reduceAdd (weights Q K S) (constant S_ .f32 0x00000000#32) reducesTo_S8x32x2x4x128x384_S8x32x2x4x128_d5 h_S_))
    (Host.exp (subf (sinks S) (top Q K S)))

/-- The reference's result. -/
def REF (Q : FVec Ideal S8x4096x8x64 .f32) (K V : FVec Ideal S8x4096x2x64 .f32) (S : FVec Ideal S8 .f32) : FVec Ideal S8x4096x512 .bf16 :=
  truncf .bf16 (shapeCast _ (transpose S8x32x128x2x4x64 [0, 1, 5, 2, 4, 3] (Host.dotGeneral dot_S8x32x384x2x64_S8x32x2x4x128x384_S8x32x2x64x4x128_2_5_4_34_013_012 none (window V)
    (Host.divf (weights Q K S) (broadcastInDim S8x32x2x4x128x384 ![0, 1, 2, 3, 4, 5] bcast_S8x32x2x4x128x1_S8x32x2x4x128x384_0_1_2_3_4_5 (denom Q K S))))
    transposes_S8x32x2x64x4x128_S8x32x128x2x4x64_0_1_5_2_4_3) shapeCasts_S8x32x128x2x4x64_S8x4096x512) bitsLt_bf16_f32

set_option maxHeartbeats 4000000 in
/-- The reference's run ends at this term. -/
theorem res_eq (m : (ℓ : Loc nD τ sig) → Buf (Elt Ideal) ℓ) (c : Dev nD) :
    res_main_v83 m c = REF (m ((c.tc : Thread nD τ).loc main_arg0)) (m ((c.tc : Thread nD τ).loc main_arg1))
      (m ((c.tc : Thread nD τ).loc main_arg2)) (m ((c.tc : Thread nD τ).loc main_arg3)) := rfl

section
variable (Q : FVec Ideal S8x4096x8x64 .f32) (K V : FVec Ideal S8x4096x2x64 .f32) (S : FVec Ideal S8 .f32)

/-- The indices that keep five coordinates when the last one is dropped. -/
theorem drop_last (b : Fin 8) (n : Fin 32) (k : Fin 2) (g : Fin 4) (a : Fin 128) (i : S8x32x2x4x128x384.Idx) :
    reducesTo_S8x32x2x4x128x384_S8x32x2x4x128_d5.drop i = ix5 b n k g a ↔ ∃ x : Fin 384, ix6 b n k g a x = i := by
  constructor
  · intro e
    refine ⟨i 5, ?_⟩
    funext c; apply Fin.ext
    match c with
    | ⟨0, _⟩ => exact (congrArg Fin.val (congrFun e ⟨0, by decide⟩)).symm
    | ⟨1, _⟩ => exact (congrArg Fin.val (congrFun e ⟨1, by decide⟩)).symm
    | ⟨2, _⟩ => exact (congrArg Fin.val (congrFun e ⟨2, by decide⟩)).symm
    | ⟨3, _⟩ => exact (congrArg Fin.val (congrFun e ⟨3, by decide⟩)).symm
    | ⟨4, _⟩ => exact (congrArg Fin.val (congrFun e ⟨4, by decide⟩)).symm
    | ⟨5, _⟩ => rfl
  · rintro ⟨x, rfl⟩
    funext c; apply Fin.ext
    match c with
    | ⟨0, _⟩ => rfl
    | ⟨1, _⟩ => rfl
    | ⟨2, _⟩ => rfl
    | ⟨3, _⟩ => rfl
    | ⟨4, _⟩ => rfl

/-- The largest along the last axis. -/
theorem reduceMax_at (x : FVec Ideal S8x32x2x4x128x384 .f32) (b : Fin 8) (n : Fin 32) (k : Fin 2) (g : Fin 4) (a : Fin 128) :
    Host.reduce FloatOps.maximumf x (constant S_ .f32 0xFF800000#32) reducesTo_S8x32x2x4x128x384_S8x32x2x4x128_d5 h_S_ (ix5 b n k g a)
      = Finset.univ.fold max (Ideal.ofBits .f32 0xFF800000#32) (fun j => x (ix6 b n k g a j)) := by
  rw [Host.reduce_eq_fold]
  exact Finset.fold_filter_eq_fold_of_fiber _ _ (fun j : Fin 384 => ix6 b n k g a j) (fun _ _ e => congrFun e 5) (drop_last b n k g a) _ _

/-- The sum along the last axis. -/
theorem reduceAdd_at (x : FVec Ideal S8x32x2x4x128x384 .f32) (b : Fin 8) (n : Fin 32) (k : Fin 2) (g : Fin 4) (a : Fin 128) :
    Host.reduceAdd x (constant S_ .f32 0x00000000#32) reducesTo_S8x32x2x4x128x384_S8x32x2x4x128_d5 h_S_ (ix5 b n k g a)
      = ∑ j, x (ix6 b n k g a j) := by
  show Ideal.ofBits .f32 0x00000000#32 + ∑ i ∈ Finset.univ.filter (fun i => reducesTo_S8x32x2x4x128x384_S8x32x2x4x128_d5.drop i = ix5 b n k g a), x i = _
  rw [Ideal.ofBits_zero_f32, zero_add]
  exact Finset.sum_filter_eq_sum_of_fiber _ (fun j : Fin 384 => ix6 b n k g a j) (fun _ _ e => congrFun e 5) (drop_last b n k g a) _

set_option maxHeartbeats 2000000

/-- A scaled query. -/
theorem qblocks_at (b : Fin 8) (n : Fin 32) (a : Fin 128) (k : Fin 2) (g : Fin 4) (l : Fin 64) :
    qblocks Q (ix6 b n a k g l) = Q (ix4 b ⟨n.val * 128 + a.val, by omega⟩ ⟨k.val * 4 + g.val, by omega⟩ l) * Ideal.ofBits .f32 0x3E000000#32 := by
  pointwise [qblocks]

/-- A padded key: the key where there is one, else zero. -/
theorem padded_at (b : Fin 8) (n : Fin 34) (a : Fin 128) (k : Fin 2) (l : Fin 64) :
    padded K (ix5 b n a k l) = if h : 128 ≤ n.val * 128 + a.val ∧ n.val * 128 + a.val - 128 < 4096
      then K (ix4 b ⟨n.val * 128 + a.val - 128, h.2⟩ k l) else FloatOps.sitofp (F := Ideal) .f32 0#32 := by
  pointwise [padded]

/-- A key of a window, by the part it is in. -/
theorem window_parts (b : Fin 8) (n : Fin 32) (j : Fin 384) (k : Fin 2) (l : Fin 64) :
    window K (ix5 b n j k l) = if h : j.val < 128 then padded K (ix5 b ⟨n.val, by omega⟩ ⟨j.val, h⟩ k l)
      else if h' : j.val - 128 < 128 then padded K (ix5 b ⟨1 + n.val, by omega⟩ ⟨j.val - 128, h'⟩ k l)
      else padded K (ix5 b ⟨2 + n.val, by omega⟩ ⟨j.val - 128 - 128, by omega⟩ k l) := by
  pointwise [window]

/-- A key of a window that lies in the sequence. -/
theorem window_at (b : Fin 8) (n : Fin 32) (j : Fin 384) (k : Fin 2) (l : Fin 64) (h : 128 ≤ 128 * n.val + j.val) (h' : 128 * n.val + j.val - 128 < 4096) :
    window K (ix5 b n j k l) = K (ix4 b ⟨128 * n.val + j.val - 128, h'⟩ k l) := by
  rw [window_parts]
  split_ifs with h1 h2
  · rw [padded_at, dif_pos ⟨by dsimp only; omega, by dsimp only; omega⟩]
    exact congrArg (fun z => K (ix4 b z k l)) (Fin.ext (by dsimp only; omega))
  · rw [padded_at, dif_pos ⟨by dsimp only; omega, by dsimp only; omega⟩]
    exact congrArg (fun z => K (ix4 b z k l)) (Fin.ext (by dsimp only; omega))
  · rw [padded_at, dif_pos ⟨by dsimp only; omega, by dsimp only; omega⟩]
    exact congrArg (fun z => K (ix4 b z k l)) (Fin.ext (by dsimp only; omega))

/-- Whether a query sees a key. -/
theorem valid_at (n : Fin 32) (a : Fin 128) (j : Fin 384) :
    valid (ix3 n a j) = IntOp.andi (IntOp.cmpi .sle (IntOp.absi (IntOp.subi (IntOp.addi (BitVec.ofNat 32 a.val) 128#32) (BitVec.ofNat 32 j.val))) 128#32)
      (IntOp.andi (IntOp.cmpi .sge (IntOp.addi (IntOp.subi (IntOp.muli (BitVec.ofNat 32 n.val) 128#32) 128#32) (BitVec.ofNat 32 j.val)) 0#32)
        (IntOp.cmpi .slt (IntOp.addi (IntOp.subi (IntOp.muli (BitVec.ofNat 32 n.val) 128#32) 128#32) (BitVec.ofNat 32 j.val)) 4096#32)) := by
  pointwise [valid, keyPos, dist]

/-- A score. -/
theorem score_at (b : Fin 8) (n : Fin 32) (k : Fin 2) (g : Fin 4) (a : Fin 128) (j : Fin 384) :
    score Q K (ix6 b n k g a j) = ∑ x, window K (ix5 b n j k x) * qblocks Q (ix6 b n a k g x) := by
  pointwise [score]

/-- A bias. -/
theorem bias_at (b : Fin 8) (n : Fin 32) (k : Fin 2) (g : Fin 4) (a : Fin 128) (j : Fin 384) :
    bias (ix6 b n k g a j) = Ideal.ofBits .f32 (lit0 (S8.rowMajor (ix1 ⟨k.val * 4 + g.val, by omega⟩)))
      * FloatOps.sitofp (F := Ideal) .f32 (IntOp.absi (IntOp.subi (IntOp.addi (BitVec.ofNat 32 a.val) 128#32) (BitVec.ofNat 32 j.val))) := by
  pointwise [bias, slopes, dist]

/-- A masked score. -/
theorem masked_at (b : Fin 8) (n : Fin 32) (k : Fin 2) (g : Fin 4) (a : Fin 128) (j : Fin 384) :
    masked Q K (ix6 b n k g a j) = Scalar.select (valid (ix3 n a j)) (score Q K (ix6 b n k g a j) - bias (ix6 b n k g a j)) (Ideal.ofBits .f32 0xFF800000#32) := by
  pointwise [masked]

/-- A sink. -/
theorem sinks_at (b : Fin 8) (n : Fin 32) (k : Fin 2) (g : Fin 4) (a : Fin 128) :
    sinks S (ix6 b n k g a 0) = S (ix1 ⟨k.val * 4 + g.val, by omega⟩) := by
  pointwise [sinks]

/-- The larger of two arrays, one of them without the last axis. -/
theorem max_last (M : FVec Ideal S8x32x2x4x128 .f32) (Z : FVec Ideal S8x32x2x4x128x1 .f32) (b : Fin 8) (n : Fin 32) (k : Fin 2) (g : Fin 4) (a : Fin 128) :
    maximumf (broadcastInDim S8x32x2x4x128x1 ![0, 1, 2, 3, 4] bcast_S8x32x2x4x128_S8x32x2x4x128x1_0_1_2_3_4 M) Z (ix6 b n k g a 0)
      = max (M (ix5 b n k g a)) (Z (ix6 b n k g a 0)) := by
  pointwise

/-- A sum of two arrays, one of them without the last axis. -/
theorem add_last (M : FVec Ideal S8x32x2x4x128 .f32) (Z T : FVec Ideal S8x32x2x4x128x1 .f32) (b : Fin 8) (n : Fin 32) (k : Fin 2) (g : Fin 4) (a : Fin 128) :
    addf (broadcastInDim S8x32x2x4x128x1 ![0, 1, 2, 3, 4] bcast_S8x32x2x4x128_S8x32x2x4x128x1_0_1_2_3_4 M) (Host.exp (subf Z T)) (ix6 b n k g a 0)
      = M (ix5 b n k g a) + Ideal.exp (Z (ix6 b n k g a 0) - T (ix6 b n k g a 0)) := by
  pointwise

/-- The exponential of a difference to an array of one column. -/
theorem exp_sub_last (M : FVec Ideal S8x32x2x4x128x384 .f32) (T : FVec Ideal S8x32x2x4x128x1 .f32) (b : Fin 8) (n : Fin 32) (k : Fin 2) (g : Fin 4) (a : Fin 128) (j : Fin 384) :
    Host.exp (subf M (broadcastInDim S8x32x2x4x128x384 ![0, 1, 2, 3, 4, 5] bcast_S8x32x2x4x128x1_S8x32x2x4x128x384_0_1_2_3_4_5 T)) (ix6 b n k g a j)
      = Ideal.exp (M (ix6 b n k g a j) - T (ix6 b n k g a 0)) := by
  pointwise

/-- The values weighted and put in rows. -/
theorem out_rows (W : FVec Ideal S8x32x384x2x64 .f32) (P : FVec Ideal S8x32x2x4x128x384 .f32) (D : FVec Ideal S8x32x2x4x128x1 .f32)
    (b : Fin 8) (n : Fin 32) (a : Fin 128) (k : Fin 2) (g : Fin 4) (d : Fin 64) :
    truncf .bf16 (shapeCast S8x4096x512 (transpose S8x32x128x2x4x64 [0, 1, 5, 2, 4, 3] (Host.dotGeneral dot_S8x32x384x2x64_S8x32x2x4x128x384_S8x32x2x64x4x128_2_5_4_34_013_012 none W
      (Host.divf P (broadcastInDim S8x32x2x4x128x384 ![0, 1, 2, 3, 4, 5] bcast_S8x32x2x4x128x1_S8x32x2x4x128x384_0_1_2_3_4_5 D)))
      transposes_S8x32x2x64x4x128_S8x32x128x2x4x64_0_1_5_2_4_3) shapeCasts_S8x32x128x2x4x64_S8x4096x512) bitsLt_bf16_f32
      (ix3 b ⟨128 * n.val + a.val, by omega⟩ ⟨256 * k.val + 64 * g.val + d.val, by omega⟩)
      = ∑ x, W (ix5 b n x k d) * Ideal.div (P (ix6 b n k g a x)) (D (ix6 b n k g a 0)) := by
  pointwise

/-- The largest of a query's scores and its sink. -/
theorem top_at (b : Fin 8) (n : Fin 32) (k : Fin 2) (g : Fin 4) (a : Fin 128) :
    top Q K S (ix6 b n k g a 0) = max (Finset.univ.fold max (Ideal.ofBits .f32 0xFF800000#32) (fun j => masked Q K (ix6 b n k g a j)))
      (S (ix1 ⟨k.val * 4 + g.val, by omega⟩)) :=
  (max_last _ _ b n k g a).trans (congrArg₂ max (reduceMax_at (masked Q K) b n k g a) (sinks_at S b n k g a))

/-- A weight. -/
theorem weights_at (b : Fin 8) (n : Fin 32) (k : Fin 2) (g : Fin 4) (a : Fin 128) (j : Fin 384) :
    weights Q K S (ix6 b n k g a j) = Ideal.exp (masked Q K (ix6 b n k g a j) - top Q K S (ix6 b n k g a 0)) :=
  exp_sub_last (masked Q K) (top Q K S) b n k g a j

/-- The sum of a query's weights. -/
theorem denom_at (b : Fin 8) (n : Fin 32) (k : Fin 2) (g : Fin 4) (a : Fin 128) :
    denom Q K S (ix6 b n k g a 0) = (∑ j, Ideal.exp (masked Q K (ix6 b n k g a j) - top Q K S (ix6 b n k g a 0)))
      + Ideal.exp (S (ix1 ⟨k.val * 4 + g.val, by omega⟩) - top Q K S (ix6 b n k g a 0)) :=
  (add_last _ _ _ b n k g a).trans (congrArg₂ (· + ·) ((reduceAdd_at (weights Q K S) b n k g a).trans (Finset.sum_congr rfl fun j _ => weights_at Q K S b n k g a j))
    (congrArg (fun z => Ideal.exp (z - top Q K S (ix6 b n k g a 0))) (sinks_at S b n k g a)))

/-- The result at one query, head and lane. -/
theorem REF_at (b : Fin 8) (n : Fin 32) (a : Fin 128) (k : Fin 2) (g : Fin 4) (d : Fin 64) :
    REF Q K V S (ix3 b ⟨128 * n.val + a.val, by omega⟩ ⟨256 * k.val + 64 * g.val + d.val, by omega⟩)
      = ∑ x, window V (ix5 b n x k d) * Ideal.div (Ideal.exp (masked Q K (ix6 b n k g a x) - top Q K S (ix6 b n k g a 0)))
          ((∑ j, Ideal.exp (masked Q K (ix6 b n k g a j) - top Q K S (ix6 b n k g a 0)))
            + Ideal.exp (S (ix1 ⟨k.val * 4 + g.val, by omega⟩) - top Q K S (ix6 b n k g a 0))) :=
  (out_rows (window V) (weights Q K S) (denom Q K S) b n a k g d).trans (Finset.sum_congr rfl fun x _ =>
    congrArg₂ (fun u w => window V (ix5 b n x k d) * Ideal.div u w) (weights_at Q K S b n k g a x) (denom_at Q K S b n k g a))
end

end Cert.ReferenceIdeal.Value
end
-- ==== Proof.AttnTabs.lean ====
module

public import Idealize.ShloMosaic.Lib.StableHlo.RunRead
public import proofs.«01_k».proof.Proof.Gen.KernelIdeal.Frame
public import Idealize.ShloMosaic.Lib.Pipeline.ValueKit
public import Idealize.ShloMosaic.Lib.ValueIdxRank6

@[expose] public section

set_option maxRecDepth 65536
noncomputable section
open Idealize.ShloMosaic Idealize.ShloMosaic.StableHlo Idealize.ShloMosaic.TcCoe Idealize.SL.Sem
open Idealize.ShloMosaic.Pipeline (Dat)

/-! The arrays the attention kernel is called on, entry by entry. -/

namespace Cert.KernelIdeal.Value
open Cert.KernelIdeal Cert.KernelIdeal.Gen

/-- The keys, one row a position, both heads side by side. -/
def keyRows (K : FVec Ideal S8x4096x2x64 .f32) : FVec Ideal S32768x128 .f32 := shapeCast _ K shapeCasts_S8x4096x2x64_S32768x128

/-- The same with the heads exchanged. -/
def keySwap (K : FVec Ideal S8x4096x2x64 .f32) : FVec Ideal S32768x128 .f32 :=
  concatenate S32768x128 1 [⟨S32768x64, extractStridedSlice S32768x64 ![0, 64] (keyRows K) slices_S32768x128_S32768x64_0_64⟩,
    ⟨S32768x64, extractStridedSlice S32768x64 ![0, 0] (keyRows K) slices_S32768x128_S32768x64_0_0⟩] concatenates_S32768x64_S32768x64_S32768x128_d1

/-- Which lanes are the first head's. -/
def low : IVec S32768x128 1 := cmpi .slt (iotaInDim S32768x128 32 1) (broadcastInDim S32768x128 ![] bcast_S_S32768x128 (constantI S_ 32 64#32))

/-- Zeros. -/
def zeroRows : FVec Ideal S32768x128 .f32 := broadcastInDim S32768x128 ![] bcast_S_S32768x128 (constant S_ .f32 0x00000000#32)

/-- The key table: for every pair of heads the keys in one half of the lanes, zeros in the other. -/
def keyTab (K : FVec Ideal S8x4096x2x64 .f32) : FVec Ideal S8x4096x512 .bf16 :=
  shapeCast _ (truncf .bf16 (concatenate S32768x512 1 [⟨S32768x128, select low (keyRows K) zeroRows⟩, ⟨S32768x128, select low zeroRows (keySwap K)⟩,
    ⟨S32768x128, select low (keySwap K) zeroRows⟩, ⟨S32768x128, select low zeroRows (keyRows K)⟩] concatenates_S32768x128_S32768x128_S32768x128_S32768x128_S32768x512_d1) bitsLt_bf16_f32) shapeCasts_S32768x512_S8x4096x512

/-- The values, lanes down. -/
def valT (V : FVec Ideal S8x4096x2x64 .f32) : FVec Ideal S128x32768 .f32 :=
  transpose S128x32768 [1, 0] (shapeCast S32768x128 V shapeCasts_S8x4096x2x64_S32768x128) transposes_S32768x128_S128x32768_1_0

/-- Rows of ones. -/
def oneRows : FVec Ideal S16x32768 .f32 := broadcastInDim S16x32768 ![] bcast_S_S16x32768 (constant S_ .f32 0x3F800000#32)

/-- The value table: each head's lanes with rows of ones beneath. -/
def valTab (V : FVec Ideal S8x4096x2x64 .f32) : FVec Ideal S160x32768 .bf16 :=
  truncf .bf16 (concatenate S160x32768 0 [⟨S64x32768, extractStridedSlice S64x32768 ![0, 0] (valT V) slices_S128x32768_S64x32768_0_0⟩, ⟨S16x32768, oneRows⟩,
    ⟨S64x32768, extractStridedSlice S64x32768 ![64, 0] (valT V) slices_S128x32768_S64x32768_64_0⟩, ⟨S16x32768, oneRows⟩] concatenates_S64x32768_S16x32768_S64x32768_S16x32768_S160x32768_d0) bitsLt_bf16_f32

/-- The queries, heads side by side. -/
def queryTab (Q : FVec Ideal S8x4096x8x64 .f32) : FVec Ideal S8x4096x512 .f32 := shapeCast _ Q shapeCasts_S8x4096x8x64_S8x4096x512

/-- How far a key of the window is from a query. -/
def distT : IVec S384x128 32 :=
  absi (subi (addi (iotaInDim S384x128 32 1) (broadcastInDim S384x128 ![] bcast_S_S384x128 (constantI S_ 32 128#32))) (iotaInDim S384x128 32 0))

/-- Which keys are near enough. -/
def near : IVec S384x128 1 := cmpi .sle distT (broadcastInDim S384x128 ![] bcast_S_S384x128 (constantI S_ 32 128#32))

/-- The keys a query sees, in an inner block, in the first block, in the last one. -/
def seen : IVec S3x384x128 1 :=
  concatenate S3x384x128 0 [⟨S1x384x128, broadcastInDim S1x384x128 ![1, 2] bcast_S384x128_S1x384x128_1_2 near⟩,
    ⟨S1x384x128, broadcastInDim S1x384x128 ![1, 2] bcast_S384x128_S1x384x128_1_2 (andi near (cmpi .sge (iotaInDim S384x128 32 0) (broadcastInDim S384x128 ![] bcast_S_S384x128 (constantI S_ 32 128#32))))⟩,
    ⟨S1x384x128, broadcastInDim S1x384x128 ![1, 2] bcast_S384x128_S1x384x128_1_2 (andi near (cmpi .slt (iotaInDim S384x128 32 0) (broadcastInDim S384x128 ![] bcast_S_S384x128 (constantI S_ 32 256#32))))⟩]
    concatenates_S1x384x128_S1x384x128_S1x384x128_S3x384x128_d0

/-- The slopes by pair and half. -/
def slopesT : FVec Ideal S2x2x2 .f32 :=
  transpose S2x2x2 [0, 2, 1] (shapeCast S2x2x2 (fun i => FloatOps.ofBits .f32 (lit0 (S8.rowMajor i)) : FVec Ideal S8 .f32) shapeCasts_S8_S2x2x2) transposes_S2x2x2_S2x2x2_0_2_1

/-- The linear bias. -/
def slopeDist : FVec Ideal S1x2x2x384x2x128 .f32 :=
  mulf (broadcastInDim S1x2x2x384x2x128 ![0, 1, 2, 3, 4, 5] bcast_S1x2x2x1x2x1_S1x2x2x384x2x128_0_1_2_3_4_5 (Host.negf (broadcastInDim S1x2x2x1x2x1 ![1, 2, 4] bcast_S2x2x2_S1x2x2x1x2x1_1_2_4 slopesT)))
    (broadcastInDim S1x2x2x384x2x128 ![0, 1, 2, 3, 4, 5] bcast_S1x1x1x384x1x128_S1x2x2x384x2x128_0_1_2_3_4_5 (broadcastInDim S1x1x1x384x1x128 ![3, 5] bcast_S384x128_S1x1x1x384x1x128_3_5 (sitofp .f32 distT)))

/-- The bias and mask, one table for each of the three kinds of block and each pair, before it is put in one array. -/
def biasGrid : FVec Ideal S3x2x2x384x2x128 .f32 :=
  select (broadcastInDim S3x2x2x384x2x128 ![0, 1, 2, 3, 4, 5] bcast_S3x1x1x384x1x128_S3x2x2x384x2x128_0_1_2_3_4_5 (broadcastInDim S3x1x1x384x1x128 ![0, 3, 5] bcast_S3x384x128_S3x1x1x384x1x128_0_3_5 seen))
    (broadcastInDim S3x2x2x384x2x128 ![0, 1, 2, 3, 4, 5] bcast_S1x2x2x384x2x128_S3x2x2x384x2x128_0_1_2_3_4_5 slopeDist)
    (broadcastInDim S3x2x2x384x2x128 ![] bcast_S_S3x2x2x384x2x128 (constant S_ .f32 0xFF800000#32))

/-- The bias and mask table. -/
def biasTab : FVec Ideal S12x384x256 .f32 := shapeCast _ biasGrid shapeCasts_S3x2x2x384x2x128_S12x384x256

/-- The sink table. -/
def sinkTab (S : FVec Ideal S8 .f32) : FVec Ideal S1x4x1x256 .f32 :=
  shapeCast _ (broadcastInDim S1x4x1x2x128 ![0, 1, 2, 3] bcast_S1x4x1x2_S1x4x1x2x128_0_1_2_3 (shapeCast S1x4x1x2
    (transpose S1x2x2x2 [0, 1, 3, 2] (shapeCast S1x2x2x2 (broadcastInDim S1x8 ![1] bcast_S8_S1x8_1 S) shapeCasts_S1x8_S1x2x2x2) transposes_S1x2x2x2_S1x2x2x2_0_1_3_2)
    shapeCasts_S1x2x2x2_S1x4x1x2)) shapeCasts_S1x4x1x2x128_S1x4x1x256

/-- Four blocks of rows side by side, one by one. -/
theorem beside {A0 A1 A2 A3 B0 B1 B2 B3 : FVec Ideal S32768x128 .f32} (h0 : A0 = B0) (h1 : A1 = B1) (h2 : A2 = B2) (h3 : A3 = B3) :
    concatenate S32768x512 1 [⟨S32768x128, A0⟩, ⟨S32768x128, A1⟩, ⟨S32768x128, A2⟩, ⟨S32768x128, A3⟩] concatenates_S32768x128_S32768x128_S32768x128_S32768x128_S32768x512_d1
    = concatenate S32768x512 1 [⟨S32768x128, B0⟩, ⟨S32768x128, B1⟩, ⟨S32768x128, B2⟩, ⟨S32768x128, B3⟩] concatenates_S32768x128_S32768x128_S32768x128_S32768x128_S32768x512_d1 := by
  rw [h0, h1, h2, h3]

section
variable (m : (ℓ : Loc nD τ sig) → Buf (Elt Ideal) ℓ)
set_option maxHeartbeats 4000000

/-- The kernel is called on the sink table. -/
theorem V_sink (c : Dev nD) : V m c main_v58 = sinkTab (m ((c : Thread nD τ).loc main_arg3)) := rfl
/-- The kernel is called on the queries. -/
theorem V_query (c : Dev nD) : V m c main_v21 = queryTab (m ((c : Thread nD τ).loc main_arg0)) := rfl
/-- The kernel is called on the key table. -/
theorem V_key (c : Dev nD) : V m c main_v22 = keyTab (m ((c : Thread nD τ).loc main_arg1)) := by
  unfold keyTab
  dsimp only [V]
  simp only [List.flatten_cons, List.flatten_nil, List.cons_append, List.nil_append, List.append_assoc]
  after_reads_simp
  refine congrArg (fun z => shapeCast S8x4096x512 (truncf .bf16 z bitsLt_bf16_f32) shapeCasts_S32768x512_S8x4096x512) (beside ?_ ?_ ?_ ?_)
  · show upto _ _ 15 (Proc.tc.devRef main_v8) = _
    after_reads_simp
    rfl
  · show upto _ _ 15 (Proc.tc.devRef main_v9) = _
    after_reads_simp
    rfl
  · show upto _ _ 15 (Proc.tc.devRef main_v10) = _
    after_reads_simp
    rfl
  · show upto _ _ 15 (Proc.tc.devRef main_v11) = _
    after_reads_simp
    rfl
/-- The kernel is called on the value table. -/
theorem V_val (c : Dev nD) : V m c main_v20 = valTab (m ((c : Thread nD τ).loc main_arg2)) := rfl
/-- The kernel is called on the bias table. -/
theorem V_bias (c : Dev nD) : V m c main_v52 = biasTab := rfl
end

end Cert.KernelIdeal.Value
end
-- ==== Proof.AttnLoads.lean ====
module

public import proofs.«01_k».proof.Proof.AttnTabs
public import proofs.«01_k».proof.Proof.Gen.KernelIdeal.Frame
public import Idealize.ShloMosaic.Lib.Pipeline.ValueKit

@[expose] public section

set_option maxRecDepth 65536
noncomputable section
open Idealize.ShloMosaic Idealize.ShloMosaic.TcCoe Idealize.SL.Sem
open Idealize.ShloMosaic.Pipeline (Dat)

/-! What the attention kernel's windows hold at a grid point, and what it loads from them. -/

namespace Cert.KernelIdeal.Value
open Cert.KernelIdeal Cert.KernelIdeal.Gen

/-- The windows' blocks at each grid point: the point is a batch element. -/
theorem idx : ∀ t : Fin cfg0.N, win0_0.index t = ![0, 0, 0, 0] ∧ win0_1.index t = ![t.val, 0, 0] ∧ win0_2.index t = ![t.val, 0, 0]
    ∧ win0_3.index t = ![t.val, 0, 0] ∧ win0_4.index t = ![t.val, 31, 0] ∧ win0_5.index t = ![0, t.val]
    ∧ win0_6.index t = ![0, 32 * t.val] ∧ win0_7.index t = ![0, 32 * t.val + 31] ∧ win0_8.index t = ![0, 0, 0] ∧ win0_9.index t = ![t.val, 0, 0] := by
  decide +kernel

variable (m : (ℓ : Loc nD τ sig) → Buf (Elt Ideal) ℓ)

/-- There are eight grid points. -/
theorem point_lt (t : Fin cfg0.N) : t.val < 8 := t.isLt

/-- The batch element of a grid point. -/
def batch (t : Fin cfg0.N) : Fin 8 := ⟨t.val, point_lt t⟩

/-- A read through window 0, whatever the array. -/
theorem read0_at (t : Fin cfg0.N) (p : Fin 4) (u : Fin 256) (B) :
    ((cfg0.win 0).blk t).view.read (Elt Ideal) B (ix4 0 p 0 u) = B (ix4 0 p 0 u) := by
  blk_ext [batch, idx t]

/-- The sinks' window. -/
theorem blk0_at (c : Dev nD) (t : Fin cfg0.N) (p : Fin 4) (u : Fin 256) :
    iblk m c 0 t (ix4 0 p 0 u) = sinkTab (m ((c : Thread nD τ).loc main_arg3)) (ix4 0 p 0 u) :=
  (read0_at t p u _).trans (congrFun (V_sink m c) _)

/-- A read through window 1, whatever the array. -/
theorem read1_at (t : Fin cfg0.N) (s : Fin 4096) (l : Fin 512) (B) :
    ((cfg0.win 1).blk t).view.read (Elt Ideal) B (ix3 0 s l) = B (ix3 (batch t) s l) := by
  blk_ext [batch, idx t]

/-- The queries' window. -/
theorem blk1_at (c : Dev nD) (t : Fin cfg0.N) (s : Fin 4096) (l : Fin 512) :
    iblk m c 1 t (ix3 0 s l) = queryTab (m ((c : Thread nD τ).loc main_arg0)) (ix3 (batch t) s l) :=
  (read1_at t s l _).trans (congrFun (V_query m c) _)

/-- A read through window 2, whatever the array. -/
theorem read2_at (t : Fin cfg0.N) (s : Fin 4096) (l : Fin 512) (B) :
    ((cfg0.win 2).blk t).view.read (Elt Ideal) B (ix3 0 s l) = B (ix3 (batch t) s l) := by
  blk_ext [batch, idx t]

/-- The keys' window. -/
theorem blk2_at (c : Dev nD) (t : Fin cfg0.N) (s : Fin 4096) (l : Fin 512) :
    iblk m c 2 t (ix3 0 s l) = keyTab (m ((c : Thread nD τ).loc main_arg1)) (ix3 (batch t) s l) :=
  (read2_at t s l _).trans (congrFun (V_key m c) _)

/-- A read through window 3, whatever the array. -/
theorem read3_at (t : Fin cfg0.N) (s : Fin 128) (l : Fin 512) (B) :
    ((cfg0.win 3).blk t).view.read (Elt Ideal) B (ix3 0 s l) = B (ix3 (batch t) ⟨s.val, by omega⟩ l) := by
  blk_ext [batch, idx t]

/-- The window of the keys before the run: here the run is the whole sequence, and it is its first block. -/
theorem blk3_at (c : Dev nD) (t : Fin cfg0.N) (s : Fin 128) (l : Fin 512) :
    iblk m c 3 t (ix3 0 s l) = keyTab (m ((c : Thread nD τ).loc main_arg1)) (ix3 (batch t) ⟨s.val, by omega⟩ l) :=
  (read3_at t s l _).trans (congrFun (V_key m c) _)

/-- A read through window 4, whatever the array. -/
theorem read4_at (t : Fin cfg0.N) (s : Fin 128) (l : Fin 512) (B) :
    ((cfg0.win 4).blk t).view.read (Elt Ideal) B (ix3 0 s l) = B (ix3 (batch t) ⟨3968 + s.val, by omega⟩ l) := by
  blk_ext [batch, idx t]

/-- The window of the keys after the run: here it is the last block of the sequence. -/
theorem blk4_at (c : Dev nD) (t : Fin cfg0.N) (s : Fin 128) (l : Fin 512) :
    iblk m c 4 t (ix3 0 s l) = keyTab (m ((c : Thread nD τ).loc main_arg1)) (ix3 (batch t) ⟨3968 + s.val, by omega⟩ l) :=
  (read4_at t s l _).trans (congrFun (V_key m c) _)

/-- A read through window 5, whatever the array. -/
theorem read5_at (t : Fin cfg0.N) (d : Fin 160) (s : Fin 4096) (B) :
    ((cfg0.win 5).blk t).view.read (Elt Ideal) B (ix2 d s) = B (ix2 d ⟨4096 * (batch t).val + s.val, by omega⟩) := by
  blk_ext [batch, idx t]

/-- The values' window. -/
theorem blk5_at (c : Dev nD) (t : Fin cfg0.N) (d : Fin 160) (s : Fin 4096) :
    iblk m c 5 t (ix2 d s) = valTab (m ((c : Thread nD τ).loc main_arg2)) (ix2 d ⟨4096 * (batch t).val + s.val, by omega⟩) :=
  (read5_at t d s _).trans (congrFun (V_val m c) _)

/-- A read through window 6, whatever the array. -/
theorem read6_at (t : Fin cfg0.N) (d : Fin 160) (s : Fin 128) (B) :
    ((cfg0.win 6).blk t).view.read (Elt Ideal) B (ix2 d s) = B (ix2 d ⟨4096 * (batch t).val + s.val, by omega⟩) := by
  blk_ext [batch, idx t]

/-- The window of the values before the run. -/
theorem blk6_at (c : Dev nD) (t : Fin cfg0.N) (d : Fin 160) (s : Fin 128) :
    iblk m c 6 t (ix2 d s) = valTab (m ((c : Thread nD τ).loc main_arg2)) (ix2 d ⟨4096 * (batch t).val + s.val, by omega⟩) :=
  (read6_at t d s _).trans (congrFun (V_val m c) _)

/-- A read through window 7, whatever the array. -/
theorem read7_at (t : Fin cfg0.N) (d : Fin 160) (s : Fin 128) (B) :
    ((cfg0.win 7).blk t).view.read (Elt Ideal) B (ix2 d s) = B (ix2 d ⟨4096 * (batch t).val + (3968 + s.val), by omega⟩) := by
  blk_ext [batch, idx t]

/-- The window of the values after the run. -/
theorem blk7_at (c : Dev nD) (t : Fin cfg0.N) (d : Fin 160) (s : Fin 128) :
    iblk m c 7 t (ix2 d s) = valTab (m ((c : Thread nD τ).loc main_arg2)) (ix2 d ⟨4096 * (batch t).val + (3968 + s.val), by omega⟩) :=
  (read7_at t d s _).trans (congrFun (V_val m c) _)

/-- A read through window 8, whatever the array. -/
theorem read8_at (t : Fin cfg0.N) (p : Fin 12) (j : Fin 384) (u : Fin 256) (B) :
    ((cfg0.win 8).blk t).view.read (Elt Ideal) B (ix3 p j u) = B (ix3 p j u) := by
  blk_ext [batch, idx t]

/-- The biases' window. -/
theorem blk8_at (c : Dev nD) (t : Fin cfg0.N) (p : Fin 12) (j : Fin 384) (u : Fin 256) :
    iblk m c 8 t (ix3 p j u) = biasTab (ix3 p j u) :=
  (read8_at t p j u _).trans (congrFun (V_bias m c) _)

/-- A load out of three axes, the first of one entry. -/
theorem ld3 {φ : EltTy} {n0 n1 n2 k1 k2 : ℕ} (X : (⟨3, ![n0, n1, n2]⟩ : Shape).Idx → Elt Ideal φ) (p o o' : ℕ) (off : Fin 3 → ℕ) (ho : off = ![p, o, o']) (inb) (a : Fin k1) (x : Fin k2)
    (h0 : p < n0) (h : o + k1 ≤ n1) (h' : o' + k2 ≤ n2) :
    View.ld X (Rect.unit (s := ⟨3, ![n0, n1, n2]⟩) off ![1, k1, k2] inb) (ix3 0 a x) = X (ix3 ⟨p, h0⟩ ⟨o + a.val, by omega⟩ ⟨o' + x.val, by omega⟩) := by
  subst ho
  refine View.ld_unit_apply_of X _ _ inb _ _ fun i => ?_
  fin_cases i <;> rfl

/-- A load out of two axes. -/
theorem ld2 {φ : EltTy} {n1 n2 k1 k2 : ℕ} (X : (⟨2, ![n1, n2]⟩ : Shape).Idx → Elt Ideal φ) (o o' : ℕ) (inb) (a : Fin k1) (x : Fin k2)
    (h : o + k1 ≤ n1) (h' : o' + k2 ≤ n2) :
    View.ld X (Rect.unit (s := ⟨2, ![n1, n2]⟩) ![o, o'] ![k1, k2] inb) (ix2 a x) = X (ix2 ⟨o + a.val, by omega⟩ ⟨o' + x.val, by omega⟩) := by
  refine View.ld_unit_apply_of X _ _ inb _ _ fun i => ?_
  fin_cases i <;> rfl

/-- A load of one row of sinks. -/
theorem ld4 {φ : EltTy} (X : S1x4x1x256.Idx → Elt Ideal φ) (p : ℕ) (inb) (u : Fin 256) (h : p < 4) :
    View.ld X (Rect.unit (s := S1x4x1x256) ![0, p, 0, 0] ![1, 1, 1, 256] inb) (ix4 0 0 0 u) = X (ix4 0 ⟨p, h⟩ 0 u) := by
  refine View.ld_unit_apply_of X _ _ inb _ _ fun i => ?_
  fin_cases i
  · rfl
  · rfl
  · rfl
  · exact (Nat.zero_add _).symm

/-- The bias table's rows of the first block. -/
theorem off1_eq (t : Fin cfg0.N) (p : Fin 4) : k0_off1 (grid0.coords t) (BitVec.ofNat 32 p.val) = ![4 + p.val, 0, 0] := by
  revert t p
  decide +kernel

/-- The bias table's rows of the last block. -/
theorem off2_eq (t : Fin cfg0.N) (p : Fin 4) : k0_off2 (grid0.coords t) (BitVec.ofNat 32 p.val) = ![8 + p.val, 0, 0] := by
  revert t p
  decide +kernel
end Cert.KernelIdeal.Value
end
-- ==== Proof.AttnBlock.lean ====
module

public import proofs.«01_k».proof.Proof.Gen.KernelIdeal.Skeleton
public import Idealize.ShloMosaic.Lib.Pipeline.ValueKit

@[expose] public section

set_option maxRecDepth 16384
noncomputable section
open Idealize.ShloMosaic Idealize.ShloMosaic.TcCoe

/-! The attention kernel's arithmetic on one block of 128 queries and its window of 384 keys. -/

namespace Cert.KernelIdeal.Value
open Cert.KernelIdeal Cert.KernelIdeal.Gen

/-- The scores of one pair of heads, keys down, the pair's two groups of queries side by side. -/
def scoreTile (qa qb : FVec Ideal S1x128x128 .f32) (kw : FVec Ideal S384x128 .bf16) : FVec Ideal S1x384x256 .f32 :=
  shapeCast S1x384x256 (matmul dot_S384x128_S256x128_S384x256_1_1_0_0_n_n none kw
    (truncf .bf16 (mulf (concatenate S256x128 0 [⟨S128x128, shapeCast S128x128 qa shapeCasts_S1x128x128_S128x128⟩, ⟨S128x128, shapeCast S128x128 qb shapeCasts_S1x128x128_S128x128⟩] concatenates_S128x128_S128x128_S256x128_d0)
      (broadcast S256x128 (Named.named κ "qscale" 0x3E38AA3B#32))) bitsLt_bf16_f32)
    (constant S384x256 .f32 0x00000000#32)) shapeCasts_S384x256_S1x384x256

/-- The scores with the bias added. -/
def biased (s bias : FVec Ideal S1x384x256 .f32) : FVec Ideal S384x256 .f32 :=
  addf (shapeCast S384x256 s shapeCasts_S1x384x256_S384x256)
    (mulf (shapeCast S384x256 bias shapeCasts_S1x384x256_S384x256) (broadcast S384x256 (Named.named κ "log2e" 0x3FB8AA3B#32)))

/-- The sink logits in base 2. -/
def sinkRow (sink : FVec Ideal S1x1x1x256 .f32) : FVec Ideal S1x256 .f32 :=
  mulf (shapeCast S1x256 sink shapeCasts_S1x1x1x256_S1x256) (broadcast S1x256 (Named.named κ "log2e" 0x3FB8AA3B#32))

/-- The largest of a query's scores and its sink. -/
def topRow (s bias : FVec Ideal S1x384x256 .f32) (sink : FVec Ideal S1x1x1x256 .f32) : FVec Ideal S1x256 .f32 :=
  maximumf (shapeCast S1x256 (multiReduction .maximumf [0] S256 (biased s bias) 0xFF800000#32 reduces_S384x256_S256 (.inl rfl) rfl) shapeCasts_S256_S1x256) (sinkRow sink)

/-- The values weighted by the unnormalized probabilities; row 64 is their sum. -/
def weighted (s bias : FVec Ideal S1x384x256 .f32) (sink : FVec Ideal S1x1x1x256 .f32) (vt : FVec Ideal S80x384 .bf16) : FVec Ideal S80x256 .f32 :=
  matmul dot_S80x384_S384x256_S80x256_1_0_0_1_n_n none vt
    (truncf .bf16 (exp2 (subf (biased s bias) (broadcastTo S384x256 (topRow s bias sink) broadcasts_S1x256_S384x256))) bitsLt_bf16_f32)
    (constant S80x256 .f32 0x00000000#32)

/-- The outputs of one pair of heads, lanes down. -/
def outTile (s bias : FVec Ideal S1x384x256 .f32) (sink : FVec Ideal S1x1x1x256 .f32) (vt : FVec Ideal S80x384 .bf16) : FVec Ideal S64x256 .f32 :=
  mulf (extractStridedSlice S64x256 ![0, 0] (weighted s bias sink vt) slices_S80x256_o0_0_S64x256)
    (broadcastTo S64x256 (divf (broadcast S1x256 (Scalar.ofBits .f32 0x3F800000#32))
      (addf (extractStridedSlice S1x256 ![64, 0] (weighted s bias sink vt) slices_S80x256_o64_0_S1x256)
        (exp2 (subf (sinkRow sink) (topRow s bias sink))))) broadcasts_S1x256_S64x256)

/-- One group of queries out of a pair's outputs: the left or the right half. -/
def leftHalf (o : FVec Ideal S64x256 .f32) : FVec Ideal S64x128 .f32 := extractStridedSlice S64x128 ![0, 0] o slices_S64x256_o0_0_S64x128
/-- The right half. -/
def rightHalf (o : FVec Ideal S64x256 .f32) : FVec Ideal S64x128 .f32 := extractStridedSlice S64x128 ![0, 128] o slices_S64x256_o0_128_S64x128

/-- The stored rows, from the outputs of the four pairs. -/
def rowTile (o0 o1 o2 o3 : FVec Ideal S64x256 .f32) : FVec Ideal S1x128x512 .bf16 :=
  shapeCast S1x128x512 (truncf .bf16 (transpose S128x512 [1, 0]
    (concatenate S512x128 0 [⟨S64x128, leftHalf o0⟩, ⟨S64x128, leftHalf o1⟩, ⟨S64x128, rightHalf o0⟩, ⟨S64x128, rightHalf o1⟩, ⟨S64x128, leftHalf o2⟩, ⟨S64x128, leftHalf o3⟩, ⟨S64x128, rightHalf o2⟩, ⟨S64x128, rightHalf o3⟩]
      concatenates_S64x128_S64x128_S64x128_S64x128_S64x128_S64x128_S64x128_S64x128_S512x128_d0) transposes_S512x128_p1_0_S128x512) bitsLt_bf16_f32) shapeCasts_S128x512_S1x128x512

/-- The window of keys as one load, or put together from two. -/
def keys (k : FVec Ideal S1x384x128 .bf16) : FVec Ideal S384x128 .bf16 := shapeCast S384x128 k shapeCasts_S1x384x128_S384x128

/-- A score: the key's row times the scaled query's. -/
theorem scoreTile_at (qa qb : FVec Ideal S1x128x128 .f32) (kw : FVec Ideal S384x128 .bf16) (j : Fin 384) (u : Fin 256) :
    scoreTile qa qb kw (ix3 0 j u) = ∑ x, kw (ix2 j x) * ((if h : u.val < 128 then qa (ix3 0 ⟨u.val, h⟩ x)
      else qb (ix3 0 ⟨u.val - 128, by omega⟩ x)) * Named.named (F := Ideal) (φ := .f32) κ "qscale" 0x3E38AA3B#32) := by
  pointwise [scoreTile]

/-- A biased score. -/
theorem biased_at (s bias : FVec Ideal S1x384x256 .f32) (j : Fin 384) (u : Fin 256) :
    biased s bias (ix2 j u) = s (ix3 0 j u) + bias (ix3 0 j u) * Named.named (F := Ideal) (φ := .f32) κ "log2e" 0x3FB8AA3B#32 := by
  pointwise [biased]

/-- The largest of a query's scores and its sink. -/
theorem topRow_at (s bias : FVec Ideal S1x384x256 .f32) (sink : FVec Ideal S1x1x1x256 .f32) (u : Fin 256) :
    topRow s bias sink (ix2 0 u) = max (Finset.fold max (Ideal.ofBits .f32 0xFF800000#32) (fun x => biased s bias (ix2 x u)) Finset.univ)
      (sink (ix4 0 0 0 u) * Named.named (F := Ideal) (φ := .f32) κ "log2e" 0x3FB8AA3B#32) := by
  pointwise [topRow, sinkRow]

/-- An output: the weighted values over the sum of the weights and the sink's. -/
theorem outTile_at (s bias : FVec Ideal S1x384x256 .f32) (sink : FVec Ideal S1x1x1x256 .f32) (vt : FVec Ideal S80x384 .bf16) (d : Fin 64) (u : Fin 256) :
    outTile s bias sink vt (ix2 d u)
      = (∑ x, vt (ix2 ⟨d.val, by omega⟩ x) * Ideal.exp2 (biased s bias (ix2 x u) - topRow s bias sink (ix2 0 u)))
        * Ideal.div 1 (∑ x, vt (ix2 64 x) * Ideal.exp2 (biased s bias (ix2 x u) - topRow s bias sink (ix2 0 u))
          + Ideal.exp2 (sink (ix4 0 0 0 u) * Named.named (F := Ideal) (φ := .f32) κ "log2e" 0x3FB8AA3B#32 - topRow s bias sink (ix2 0 u))) := by
  pointwise [outTile, weighted, sinkRow]
  rfl

set_option maxHeartbeats 4000000 in
/-- The stored rows, lane by lane: head `4 g + 2 half + par` is one half of pair `2 g + par`. -/
theorem rowTile_eq (o : Fin 4 → FVec Ideal S64x256 .f32) (G : Fin 128 → Fin 512 → EReal)
    (h : ∀ (g half par : Fin 2) (a : Fin 128) (d : Fin 64), o ⟨2 * g.val + par.val, by omega⟩ (ix2 d ⟨128 * half.val + a.val, by omega⟩)
      = G a ⟨256 * g.val + 128 * half.val + 64 * par.val + d.val, by omega⟩) (a : Fin 128) (l : Fin 512) :
    rowTile (o 0) (o 1) (o 2) (o 3) (ix3 0 a l) = G a l := by
  have H : ∀ (g half par : ℕ) (hg : g < 2) (hh : half < 2) (hp : par < 2) (d : Fin 64) (p : Fin 4) (u : Fin 256), p.val = 2 * g + par →
      u.val = 128 * half + a.val → l.val = 256 * g + 128 * half + 64 * par + d.val → o p (ix2 d u) = G a l := by
    intro g half par hg hh hp d p u ep eu el
    have e1 : p = ⟨2 * g + par, by omega⟩ := Fin.ext ep
    have e2 : u = ⟨128 * half + a.val, by omega⟩ := Fin.ext eu
    have e3 : l = ⟨256 * g + 128 * half + 64 * par + d.val, by omega⟩ := Fin.ext el
    rw [e1, e2, e3]
    exact h ⟨g, hg⟩ ⟨half, hh⟩ ⟨par, hp⟩ a d
  pointwise [rowTile, leftHalf, rightHalf]
  split_ifs
  all_goals first
    | (refine H 0 0 0 (by decide) (by decide) (by decide) _ 0 _ rfl ?_ ?_ <;> (try dsimp only) <;> omega)
    | (refine H 0 0 1 (by decide) (by decide) (by decide) _ 1 _ rfl ?_ ?_ <;> (try dsimp only) <;> omega)
    | (refine H 0 1 0 (by decide) (by decide) (by decide) _ 0 _ rfl ?_ ?_ <;> (try dsimp only) <;> omega)
    | (refine H 0 1 1 (by decide) (by decide) (by decide) _ 1 _ rfl ?_ ?_ <;> (try dsimp only) <;> omega)
    | (refine H 1 0 0 (by decide) (by decide) (by decide) _ 2 _ rfl ?_ ?_ <;> (try dsimp only) <;> omega)
    | (refine H 1 0 1 (by decide) (by decide) (by decide) _ 3 _ rfl ?_ ?_ <;> (try dsimp only) <;> omega)
    | (refine H 1 1 0 (by decide) (by decide) (by decide) _ 2 _ rfl ?_ ?_ <;> (try dsimp only) <;> omega)
    | (refine H 1 1 1 (by decide) (by decide) (by decide) _ 3 _ rfl ?_ ?_ <;> (try dsimp only) <;> omega)
end Cert.KernelIdeal.Value
end
-- ==== Proof.AttnMath.lean ====
module

public import proofs.«01_k».proof.Proof.Gen.KernelIdeal.Skeleton
public import Idealize.ShloMosaic.Lib.Pipeline.ValueKit

@[expose] public section

noncomputable section
open Idealize.ShloMosaic Idealize.ShloMosaic.TcCoe

/-! Attention's arithmetic on the extended reals: a softmax in base two, divided at the end, is the softmax. -/

namespace Cert.AttnMath

/-- The largest of finitely many numbers and a real one is real when none of the numbers is plus infinity. -/
theorem fold_max_real {n : ℕ} (s : Fin n → EReal) (t : ℝ) (hs : ∀ x, s x ≠ ⊤) :
    ∃ M : ℝ, max (Finset.univ.fold max ⊥ s) (t : EReal) = (M : EReal) := by
  have h1 : max (Finset.univ.fold max ⊥ s) (t : EReal) ≠ ⊤ := by
    apply ne_of_lt
    rw [max_lt_iff]
    refine ⟨?_, EReal.coe_lt_top t⟩
    rw [Finset.fold_max_lt]
    exact ⟨bot_lt_top, fun x _ => lt_top_iff_ne_top.mpr (hs x)⟩
  have h2 : max (Finset.univ.fold max ⊥ s) (t : EReal) ≠ ⊥ := by
    apply ne_of_gt
    exact lt_of_lt_of_le (EReal.bot_lt_coe t) (le_max_right _ _)
  exact ⟨_, (EReal.coe_toReal h1 h2).symm⟩

/-- Scaling by a positive real commutes with the largest of the scores and the sink. -/
theorem fold_max_scale {n : ℕ} (s s' : Fin n → EReal) (t c : ℝ) (hc : 0 < c) (h : ∀ x, s' x = s x * (c : EReal)) :
    max (Finset.univ.fold max ⊥ s') ((t * c : ℝ) : EReal) = max (Finset.univ.fold max ⊥ s) (t : EReal) * (c : EReal) := by
  have mono : Monotone fun y : EReal => y * (c : EReal) := fun a b hab =>
    mul_le_mul_of_nonneg_right hab (by exact_mod_cast hc.le)
  have hb : (⊥ : EReal) * (c : EReal) = ⊥ := EReal.bot_mul_coe_of_pos hc
  have : ∀ S : Finset (Fin n), S.fold max ⊥ s' = S.fold max ⊥ s * (c : EReal) := by
    intro S
    induction S using Finset.induction_on with
    | empty => simp [hb]
    | insert a S ha ih => rw [Finset.fold_insert ha, Finset.fold_insert ha, ih, h, ← mono.map_max]
  rw [this, EReal.coe_mul, ← mono.map_max]

/-- A sum times a nonnegative real is the sum of the products. -/
theorem sum_mul_real {n : ℕ} (f : Fin n → EReal) (c : ℝ) (hc : 0 ≤ c) :
    (∑ x, f x) * (c : EReal) = ∑ x, f x * (c : EReal) := by
  have : ∀ S : Finset (Fin n), (∑ x ∈ S, f x) * (c : EReal) = ∑ x ∈ S, f x * (c : EReal) := by
    intro S
    induction S using Finset.induction_on with
    | empty => simp
    | insert a S ha ih =>
      rw [Finset.sum_insert ha, Finset.sum_insert ha, ← ih]
      exact EReal.right_distrib_of_nonneg_of_ne_top (by exact_mod_cast hc) (EReal.coe_ne_top c) _ _
  exact this _

/-- Two to the power of a number over `log 2` is `exp` of the number. -/
theorem exp2_scaled (y : ℝ) : Ideal.exp2 ((y * (Real.log 2)⁻¹ : ℝ) : EReal) = (Real.exp y : EReal) := by
  rw [Ideal.exp2_coe]
  congr 1
  change (2 : ℝ) ^ (y * (Real.log 2)⁻¹) = Real.exp y
  rw [Real.rpow_def_of_pos (by norm_num)]
  congr 1
  have : Real.log 2 ≠ 0 := (Real.log_pos (by norm_num)).ne'
  field_simp

/-- The softmax with a sink: the scores in base two and one division at the end against the scores as they are
    and a division of every weight. Values at keys that are not seen may differ. -/
theorem softmax (ok : Fin 384 → Prop) [DecidablePred ok] (r : Fin 384 → ℝ) (t : ℝ) (sK sR vK vR : Fin 384 → EReal)
    (hK : ∀ x, sK x = if ok x then ((r x * (Real.log 2)⁻¹ : ℝ) : EReal) else ⊥)
    (hR : ∀ x, sR x = if ok x then (r x : EReal) else ⊥) (hv : ∀ x, ok x → vK x = vR x)
    (one : Fin 384 → EReal) (h1 : ∀ x, one x = 1)
    (mK mR : EReal) (hmK : mK = max (Finset.univ.fold max ⊥ sK) ((t * (Real.log 2)⁻¹ : ℝ) : EReal))
    (hmR : mR = max (Finset.univ.fold max ⊥ sR) (t : EReal)) :
    (∑ x, vK x * Ideal.exp2 (sK x - mK)) * Ideal.div 1 (∑ x, one x * Ideal.exp2 (sK x - mK) + Ideal.exp2 (((t * (Real.log 2)⁻¹ : ℝ) : EReal) - mK))
      = ∑ x, vR x * Ideal.div (Ideal.exp (sR x - mR)) (∑ x, Ideal.exp (sR x - mR) + Ideal.exp ((t : EReal) - mR)) := by
  have hc : 0 < (Real.log 2)⁻¹ := inv_pos.mpr (Real.log_pos (by norm_num))
  have hs : ∀ x, sK x = sR x * (((Real.log 2)⁻¹ : ℝ) : EReal) := by
    intro x
    rw [hK, hR]
    split_ifs
    · exact EReal.coe_mul _ _
    · exact (EReal.bot_mul_coe_of_pos hc).symm
  obtain ⟨M, hM⟩ := fold_max_real sR t (by intro x; rw [hR]; split_ifs; exacts [EReal.coe_ne_top _, bot_ne_top])
  have hmR' : mR = (M : EReal) := hmR.trans hM
  have hmK' : mK = ((M * (Real.log 2)⁻¹ : ℝ) : EReal) := by
    rw [hmK, fold_max_scale sR sK t _ hc hs, hM, EReal.coe_mul]
  let p : Fin 384 → ℝ := fun x => if ok x then Real.exp (r x - M) else 0
  have hp0 : ∀ x, 0 ≤ p x := fun x => by dsimp only [p]; split_ifs; exacts [(Real.exp_pos _).le, le_rfl]
  have hpK : ∀ x, Ideal.exp2 (sK x - mK) = (p x : EReal) := by
    intro x
    rw [hK, hmK']
    dsimp only [p]
    split_ifs
    · rw [← EReal.coe_sub, ← sub_mul, exp2_scaled]
    · rw [EReal.bot_sub, Ideal.exp2_bot]; rfl
  have hpR : ∀ x, Ideal.exp (sR x - mR) = (p x : EReal) := by
    intro x
    rw [hR, hmR']
    dsimp only [p]
    split_ifs
    · rw [← EReal.coe_sub, Ideal.exp_coe]
    · rw [EReal.bot_sub, Ideal.exp_bot]; rfl
  have htK : Ideal.exp2 (((t * (Real.log 2)⁻¹ : ℝ) : EReal) - mK) = (Real.exp (t - M) : EReal) := by
    rw [hmK', ← EReal.coe_sub, ← sub_mul, exp2_scaled]
  have htR : Ideal.exp ((t : EReal) - mR) = (Real.exp (t - M) : EReal) := by
    rw [hmR', ← EReal.coe_sub, Ideal.exp_coe]
  have hsum : (∑ x, (p x : EReal)) = ((∑ x, p x : ℝ) : EReal) := by
    have : ∀ S : Finset (Fin 384), (∑ x ∈ S, (p x : EReal)) = ((∑ x ∈ S, p x : ℝ) : EReal) := by
      intro S
      induction S using Finset.induction_on with
      | empty => simp
      | insert a S ha ih => rw [Finset.sum_insert ha, Finset.sum_insert ha, ih, EReal.coe_add]
    exact this _
  have hD : 0 < (∑ x, p x) + Real.exp (t - M) := add_pos_of_nonneg_of_pos (Finset.sum_nonneg fun x _ => hp0 x) (Real.exp_pos _)
  simp only [hpK, hpR, htK, htR, h1, one_mul]
  rw [hsum, ← EReal.coe_add]
  rw [Ideal.div_coe hD.ne', one_mul, sum_mul_real _ _ (by positivity)]
  refine Finset.sum_congr rfl fun x _ => ?_
  rw [Ideal.div_coe hD.ne', mul_assoc]
  by_cases hx : ok x
  · rw [hv x hx]
  · have : p x = 0 := by dsimp only [p]; rw [if_neg hx]
    rw [this]; simp

end Cert.AttnMath
end
-- ==== Proof.AttnOps.lean ====
module

public import proofs.«01_k».proof.Proof.AttnTabs

@[expose] public section

set_option maxRecDepth 65536
noncomputable section
open Idealize.ShloMosaic Idealize.ShloMosaic.TcCoe

/-! The attention kernel's operands, one entry at a time. -/

namespace Cert.KernelIdeal.Value
open Cert.KernelIdeal Cert.KernelIdeal.Gen

/-- Entries at equal heads and lanes are equal. -/
theorem entry_eq (V : FVec Ideal S8x4096x2x64 .f32) (b : Fin 8) (s : Fin 4096) {x x' : Fin 2} {y y' : Fin 64}
    (hx : x.val = x'.val) (hy : y.val = y'.val) : V (ix4 b s x y) = V (ix4 b s x' y') := by
  rw [Fin.ext hx, Fin.ext hy]

/-- A query in the query table. -/
theorem queryTab_at (Q : FVec Ideal S8x4096x8x64 .f32) (b : Fin 8) (s : Fin 4096) (h : Fin 8) (d : Fin 64) :
    queryTab Q (ix3 b s ⟨64 * h.val + d.val, by omega⟩) = Q (ix4 b s h d) := by
  pointwise [queryTab]

/-- A value in the value table, and the ones beneath. -/
theorem valTab_at (V : FVec Ideal S8x4096x2x64 .f32) (b : Fin 8) (s : Fin 4096) (g : Fin 2) (d : Fin 80) :
    valTab V (ix2 ⟨80 * g.val + d.val, by omega⟩ ⟨4096 * b.val + s.val, by omega⟩) = if h : d.val < 64 then V (ix4 b s g ⟨d.val, h⟩) else 1 := by
  pointwise [valTab, valT, oneRows]
  have hg := g.isLt
  by_cases hd : d.val < 64
  · rw [dif_pos hd]
    split_ifs
    all_goals rcases (show g.val = 0 ∨ g.val = 1 by omega) with hg | hg
    all_goals first
      | omega
      | (refine entry_eq V b s ?_ ?_ <;> (try dsimp only) <;> omega)
  rw [dif_neg hd]
  split_ifs
  all_goals first
    | rfl
    | omega
    | (refine entry_eq V b s ?_ ?_ <;> (try dsimp only) <;> omega)

/-- A key among the rows. -/
theorem keyRows_at (K : FVec Ideal S8x4096x2x64 .f32) (b : Fin 8) (s : Fin 4096) (l : Fin 128) :
    keyRows K (ix2 ⟨b.val * 4096 + s.val, by omega⟩ l) = K (ix4 b s ⟨l.val / 64, by omega⟩ ⟨l.val % 64, by omega⟩) := by
  pointwise [keyRows]

/-- A key among the rows with the heads exchanged. -/
theorem keySwap_at (K : FVec Ideal S8x4096x2x64 .f32) (r : Fin 32768) (l : Fin 128) :
    keySwap K (ix2 r l) = if h : l.val < 64 then keyRows K (ix2 r ⟨64 + l.val, by omega⟩) else keyRows K (ix2 r ⟨l.val - 64, by omega⟩) := by
  pointwise [keySwap]

/-- Whether a lane is the first head's, as the comparison has it. -/
theorem lane_low : ∀ x : Fin 128, IntOp.cmpi .slt (BitVec.ofNat 32 x.val) 64#32 = if x.val < 64 then 1#1 else 0#1 := by decide +kernel

/-- The comparison of lanes, as a choice. -/
theorem select_low (x : ℕ) (hx : x < 128) (u v : EReal) :
    Scalar.select (IntOp.cmpi .slt (BitVec.ofNat 32 x) 64#32) u v = if x < 64 then u else v := by
  rw [lane_low ⟨x, hx⟩]
  unfold Scalar.select
  dsimp only
  split_ifs <;> simp_all

set_option maxHeartbeats 4000000 in
/-- A key in the key table: pair `2 g + par` has head `g` in the half `par` and zeros in the other. -/
theorem keyTab_at (K : FVec Ideal S8x4096x2x64 .f32) (b : Fin 8) (s : Fin 4096) (g par q : Fin 2) (d : Fin 64) :
    keyTab K (ix3 b s ⟨128 * (2 * g.val + par.val) + (64 * q.val + d.val), by omega⟩) = if q = par then K (ix4 b s g d) else 0 := by
  have hk : ∀ (p : Fin 4) (l : Fin 128), keyTab K (ix3 b s ⟨128 * p.val + l.val, by omega⟩) =
      if h : 128 * p.val + l.val < 128 then (if l.val < 64 then keyRows K (ix2 ⟨b.val * 4096 + s.val, by omega⟩ ⟨128 * p.val + l.val, by omega⟩) else 0)
      else if h : 128 * p.val + l.val - 128 < 128 then (if l.val < 64 then 0 else keySwap K (ix2 ⟨b.val * 4096 + s.val, by omega⟩ ⟨128 * p.val + l.val - 128, by omega⟩))
      else if h : 128 * p.val + l.val - 128 - 128 < 128 then (if l.val < 64 then keySwap K (ix2 ⟨b.val * 4096 + s.val, by omega⟩ ⟨128 * p.val + l.val - 128 - 128, by omega⟩) else 0)
      else (if l.val < 64 then 0 else keyRows K (ix2 ⟨b.val * 4096 + s.val, by omega⟩ ⟨128 * p.val + l.val - 128 - 128 - 128, by omega⟩)) := by
    intro p l
    pointwise [keyTab, low, zeroRows]
    refine dite_congr rfl (fun h => (select_low _ (by omega) _ _).trans (if_congr (by omega) rfl rfl)) fun h => ?_
    refine dite_congr rfl (fun h => (select_low _ (by omega) _ _).trans (if_congr (by omega) rfl rfl)) fun h => ?_
    refine dite_congr rfl (fun h => (select_low _ (by omega) _ _).trans (if_congr (by omega) rfl rfl)) fun h => ?_
    exact (select_low _ (by omega) _ _).trans (if_congr (by omega) rfl rfl)
  have e := hk ⟨2 * g.val + par.val, by omega⟩ ⟨64 * q.val + d.val, by omega⟩
  dsimp only at e
  refine e.trans ?_
  simp only [keySwap_at, keyRows_at]
  have hqp : (q = par) ↔ q.val = par.val := Fin.ext_iff
  split_ifs
  all_goals rcases (show g.val = 0 ∨ g.val = 1 by omega) with hg | hg
  all_goals rcases (show par.val = 0 ∨ par.val = 1 by omega) with hp | hp
  all_goals first
    | omega
    | rfl
    | (refine entry_eq K b s ?_ ?_ <;> (try dsimp only) <;> omega)

/-- Whether a key is seen. -/
theorem seen_at (e : Fin 3) (j : Fin 384) (a : Fin 128) : seen (ix3 e j a) =
    if e.val < 1 then IntOp.cmpi .sle (IntOp.absi (IntOp.subi (IntOp.addi (BitVec.ofNat 32 a.val) 128#32) (BitVec.ofNat 32 j.val))) 128#32
    else if e.val - 1 < 1 then IntOp.andi (IntOp.cmpi .sle (IntOp.absi (IntOp.subi (IntOp.addi (BitVec.ofNat 32 a.val) 128#32) (BitVec.ofNat 32 j.val))) 128#32)
      (IntOp.cmpi .sge (BitVec.ofNat 32 j.val) 128#32)
    else IntOp.andi (IntOp.cmpi .sle (IntOp.absi (IntOp.subi (IntOp.addi (BitVec.ofNat 32 a.val) 128#32) (BitVec.ofNat 32 j.val))) 128#32)
      (IntOp.cmpi .slt (BitVec.ofNat 32 j.val) 256#32) := by
  pointwise [seen, near, distT]
  rfl

/-- The linear bias of a key, a query and a head. -/
theorem slopeDist_at (g q h : Fin 2) (j : Fin 384) (a : Fin 128) : slopeDist (ix6 0 g q j h a)
    = -Ideal.ofBits .f32 (lit0 (S8.rowMajor (ix1 ⟨4 * g.val + 2 * h.val + q.val, by omega⟩)))
      * (((IntOp.absi (IntOp.subi (IntOp.addi (BitVec.ofNat 32 a.val) 128#32) (BitVec.ofNat 32 j.val))).toInt : ℝ) : EReal) := by
  pointwise [slopeDist, slopesT, distT]
  have e : (⟨g.val * 4 + h.val * 2 + q.val, by omega⟩ : Fin 8) = ⟨4 * g.val + 2 * h.val + q.val, by omega⟩ := Fin.ext (by dsimp only <;> omega)
  rw [e]
  rfl

/-- The bias and mask of a key, a query and a head. -/
theorem biasTab_at (e : Fin 3) (g q h : Fin 2) (j : Fin 384) (a : Fin 128) :
    biasTab (ix3 ⟨4 * e.val + (2 * g.val + q.val), by omega⟩ j ⟨128 * h.val + a.val, by omega⟩)
      = Scalar.select (seen (ix3 e j a)) (slopeDist (ix6 0 g q j h a)) (Ideal.ofBits .f32 0xFF800000#32) := by
  have h1 : biasTab (ix3 ⟨4 * e.val + (2 * g.val + q.val), by omega⟩ j ⟨128 * h.val + a.val, by omega⟩) = biasGrid (ix6 e g q j h a) := by
    pointwise [biasTab]
  rw [h1]
  pointwise [biasGrid]

/-- A sink in the sink table. -/
theorem sinkTab_at (S : FVec Ideal S8 .f32) (g q h : Fin 2) (a : Fin 128) :
    sinkTab S (ix4 0 ⟨2 * g.val + q.val, by omega⟩ 0 ⟨128 * h.val + a.val, by omega⟩) = S (ix1 ⟨4 * g.val + 2 * h.val + q.val, by omega⟩) := by
  pointwise [sinkTab]
  exact congrArg (fun z => S (ix1 z)) (Fin.ext (by dsimp only <;> omega))

end Cert.KernelIdeal.Value
end
-- ==== Proof.AttnPair.lean ====
module

public import proofs.«01_k».proof.Proof.AttnBlock
public import proofs.«01_k».proof.Proof.AttnMath
public import proofs.«01_k».proof.Proof.AttnOps
public import proofs.«01_k».proof.Proof.AttnRef

@[expose] public section

set_option maxRecDepth 16384
noncomputable section
open Idealize.ShloMosaic Idealize.ShloMosaic.TcCoe

/-! One pair of heads of the kernel's block against the reference's two heads. -/

namespace Cert.AttnPair
open Cert.KernelIdeal.Value
open Cert.ReferenceIdeal.Value (REF masked top score window valid qblocks REF_at masked_at top_at score_at window_at valid_at bias_at qblocks_at)
open Cert.KernelIdeal (S8x4096x8x64 S8x4096x2x64 S8 S1x128x128 S384x128 S1x1x1x256 S1x384x256 S80x384)

/-- Which of the three kinds a block is: the first, the last, or an inner one. -/
def edge (r : Fin 32) : Fin 3 := if r.val = 0 then 1 else if r.val = 31 then 2 else 0

/-- Whether a window's key is a position of the sequence, as the reference computes it. -/
theorem inside_bits : ∀ (r : Fin 32) (j : Fin 384),
    IntOp.andi (IntOp.cmpi .sge (IntOp.addi (IntOp.subi (IntOp.muli (BitVec.ofNat 32 r.val) 128#32) 128#32) (BitVec.ofNat 32 j.val)) 0#32)
      (IntOp.cmpi .slt (IntOp.addi (IntOp.subi (IntOp.muli (BitVec.ofNat 32 r.val) 128#32) 128#32) (BitVec.ofNat 32 j.val)) 4096#32)
    = if 128 ≤ 128 * r.val + j.val ∧ 128 * r.val + j.val - 128 < 4096 then 1#1 else 0#1 := by decide +kernel

/-- Whether a window's key lies beyond its first third. -/
theorem first_bits : ∀ j : Fin 384, IntOp.cmpi .sge (BitVec.ofNat 32 j.val) 128#32 = if 128 ≤ j.val then 1#1 else 0#1 := by decide +kernel

/-- Whether a window's key lies before its last third. -/
theorem last_bits : ∀ j : Fin 384, IntOp.cmpi .slt (BitVec.ofNat 32 j.val) 256#32 = if j.val < 256 then 1#1 else 0#1 := by decide +kernel

/-- And with one. -/
theorem andi_one : ∀ x : BitVec 1, IntOp.andi x 1#1 = x := by decide

/-- Equal choices between one and zero. -/
theorem bits_congr {p q : Prop} [Decidable p] [Decidable q] (h : p ↔ q) : (if p then 1#1 else 0#1) = if q then 1#1 else 0#1 := if_congr h rfl rfl

/-- The kernel's mask is the reference's. -/
theorem seen_eq_valid (r : Fin 32) (a : Fin 128) (j : Fin 384) : seen (ix3 (edge r) j a) = valid (ix3 r a j) := by
  rw [seen_at, valid_at, inside_bits, first_bits, last_bits]
  have hr := r.isLt
  have hj := j.isLt
  have he : (edge r).val = if r.val = 0 then 1 else if r.val = 31 then 2 else 0 := by
    unfold edge
    split_ifs <;> rfl
  rw [he]
  by_cases h0 : r.val = 0
  · rw [if_pos h0, if_neg (by omega), if_pos (by omega)]
    exact congrArg _ (bits_congr ⟨fun h => ⟨by omega, by omega⟩, fun h => by omega⟩)
  · rw [if_neg h0]
    by_cases h1 : r.val = 31
    · rw [if_pos h1, if_neg (by omega), if_neg (by omega)]
      exact congrArg _ (bits_congr ⟨fun h => ⟨by omega, by omega⟩, fun h => by omega⟩)
    · rw [if_neg h1, if_pos (by omega), if_pos (show 128 ≤ 128 * r.val + j.val ∧ 128 * r.val + j.val - 128 < 4096 from ⟨by omega, by omega⟩), andi_one]

/-- A key the reference sees is a position of the sequence. -/
theorem inside_of_valid (r : Fin 32) (a : Fin 128) (j : Fin 384) (h : valid (ix3 r a j) = 1#1) :
    128 ≤ 128 * r.val + j.val ∧ 128 * r.val + j.val - 128 < 4096 := by
  rw [valid_at, inside_bits] at h
  by_contra hn
  rw [if_neg hn] at h
  generalize IntOp.cmpi .sle _ _ = x at h
  revert x
  decide

/-- A head's slope, a real number. -/
def slope (h : Fin 8) : ℝ := (Ideal.ofBits .f32 (Cert.ReferenceIdeal.lit0 h)).toReal

/-- A head's slope is the constant's value. -/
theorem slope_eq (h : Fin 8) : Ideal.ofBits .f32 (Cert.ReferenceIdeal.lit0 h) = (slope h : EReal) := by
  have : ∃ y : ℝ, Ideal.ofBits .f32 (Cert.ReferenceIdeal.lit0 h) = (y : EReal) := by
    fin_cases h <;> exact ⟨_, by simp [Ideal.ofBits, Ideal.ieee, -EReal.coe_mul]; rfl⟩
  obtain ⟨y, hy⟩ := this
  unfold slope
  rw [hy, EReal.toReal_coe]

/-- The slopes of both programs are the same. -/
theorem lit_eq (h : Fin 8) : Cert.KernelIdeal.lit0 h = Cert.ReferenceIdeal.lit0 h := by
  fin_cases h <;> rfl

/-- An index of the slopes, as its number. -/
theorem row8 (h : Fin 8) : S8.rowMajor (ix1 h) = h := by
  have : ∀ h : Fin 8, (S8.rowMajor (ix1 h)).val = h.val := by decide +kernel
  exact Fin.ext (this h)

/-- A choice between two numbers. -/
theorem select_eq (c : BitVec 1) (x y : EReal) : Scalar.select c x y = if c = 1#1 then x else y := rfl

/-- A sum of reals. -/
theorem sum_coe {ι : Type} (s : Finset ι) (f : ι → ℝ) : ∑ x ∈ s, (f x : EReal) = ((∑ x ∈ s, f x : ℝ) : EReal) := by
  classical
  induction s using Finset.induction_on with
  | empty => simp
  | insert a s ha ih => rw [Finset.sum_insert ha, Finset.sum_insert ha, ih, EReal.coe_add]

/-- A sum over 128 lanes of which one half is zero. -/
theorem lanes_sum (f : Fin 128 → EReal) (par : Fin 2) (F : Fin 64 → EReal)
    (h : ∀ (q : Fin 2) (d : Fin 64), f ⟨64 * q.val + d.val, by omega⟩ = if q = par then F d else 0) : ∑ x, f x = ∑ d, F d := by
  rw [← (finProdFinEquiv (m := 2) (n := 64)).sum_comp f, Fintype.sum_prod_type]
  have e : ∀ (q : Fin 2) (d : Fin 64), f (finProdFinEquiv (q, d)) = if q = par then F d else 0 := by
    intro q d
    rw [← h q d]
    exact congrArg f (Fin.ext (by simp [finProdFinEquiv]; omega))
  simp only [e]
  rw [Finset.sum_comm]
  exact Finset.sum_congr rfl fun d _ => by rw [Finset.sum_ite_eq' Finset.univ par (fun _ => F d), if_pos (Finset.mem_univ _)]

/-- Minus infinity. -/
theorem bits_bot : Ideal.ofBits .f32 0xFF800000#32 = ⊥ := by simp [Ideal.ofBits, Ideal.ieee]
/-- One eighth. -/
theorem bits_eighth : Ideal.ofBits .f32 0x3E000000#32 = ((1 / 8 : ℝ) : EReal) := by
  simp [Ideal.ofBits, Ideal.ieee, -EReal.coe_mul]
  norm_num
/-- The base change. -/
theorem named_log2e : Named.named (F := Ideal) (φ := .f32) Cert.KernelIdeal.κ "log2e" 0x3FB8AA3B#32 = (((Real.log 2)⁻¹ : ℝ) : EReal) := rfl
/-- The base change and the scale of the queries. -/
theorem named_qscale : Named.named (F := Ideal) (φ := .f32) Cert.KernelIdeal.κ "qscale" 0x3E38AA3B#32 = ((1 / 8 * (Real.log 2)⁻¹ : ℝ) : EReal) := rfl

variable (Q : FVec Ideal S8x4096x8x64 .f32) (K V : FVec Ideal S8x4096x2x64 .f32) (S : FVec Ideal S8 .f32)

/-- The distance of a window's key from a query. -/
def away (a : Fin 128) (j : Fin 384) : ℝ := (((IntOp.absi (IntOp.subi (IntOp.addi (BitVec.ofNat 32 a.val) 128#32) (BitVec.ofNat 32 j.val))).toInt : ℤ) : ℝ)

/-- A score with its bias, a real number. -/
def realScore (b : Fin 8) (s : Fin 4096) (h : Fin 8) (g : Fin 2) (p : Fin 4096) (δ : ℝ) : ℝ :=
  (∑ d : Fin 64, (K (ix4 b p g d)).toReal * ((Q (ix4 b s h d)).toReal * (1 / 8))) - slope h * δ

variable (hQ : ∀ i, Q i = ((Q i).toReal : EReal)) (hK : ∀ i, K i = ((K i).toReal : EReal)) (hS : ∀ i, S i = ((S i).toReal : EReal))

include hQ hK in
/-- The reference's masked score. -/
theorem ref_masked (b : Fin 8) (r : Fin 32) (a : Fin 128) (s : Fin 4096) (hs : s.val = 128 * r.val + a.val) (g half par : Fin 2) (h : Fin 8)
    (hh : h.val = 4 * g.val + 2 * half.val + par.val) (j : Fin 384) (p : Fin 4096) (hp : valid (ix3 r a j) = 1#1 → p.val = 128 * r.val + j.val - 128) :
    masked Q K (ix6 b r g ⟨2 * half.val + par.val, by omega⟩ a j)
      = if valid (ix3 r a j) = 1#1 then ((realScore Q K b s h g p (away a j) : ℝ) : EReal) else ⊥ := by
  rw [masked_at, bits_bot, select_eq]
  by_cases hv : valid (ix3 r a j) = 1#1
  · rw [if_pos hv, if_pos hv]
    obtain ⟨h1, h2⟩ := inside_of_valid r a j hv
    have ep : (⟨128 * r.val + j.val - 128, h2⟩ : Fin 4096) = p := Fin.ext (hp hv).symm
    have es : (⟨r.val * 128 + a.val, by omega⟩ : Fin 4096) = s := Fin.ext (by dsimp only; omega)
    have eh : (⟨g.val * 4 + (2 * half.val + par.val), by omega⟩ : Fin 8) = h := Fin.ext (by dsimp only; omega)
    rw [score_at, bias_at]
    have e1 : ∀ x : Fin 64, window K (ix5 b r j g x) * qblocks Q (ix6 b r a g ⟨2 * half.val + par.val, by omega⟩ x)
        = (((K (ix4 b p g x)).toReal * ((Q (ix4 b s h x)).toReal * (1 / 8)) : ℝ) : EReal) := by
      intro x
      rw [window_at K b r j g x h1 h2, qblocks_at, bits_eighth, ep]
      dsimp only
      rw [es, eh, EReal.coe_mul, EReal.coe_mul, ← hK, ← hQ]
    rw [Finset.sum_congr rfl fun x _ => e1 x, sum_coe]
    dsimp only
    rw [eh]
    have e2 := slope_eq h
    rw [← row8 h] at e2
    refine (congrArg (fun z => _ - z * _) (e2.trans (by rw [row8]))).trans ?_
    unfold realScore
    rw [EReal.coe_sub, EReal.coe_mul]
    rfl
  · rw [if_neg hv, if_neg hv]

include hQ hK in
/-- The kernel's masked score, in base two. -/
theorem ker_masked (b : Fin 8) (r : Fin 32) (a : Fin 128) (s : Fin 4096) (hs : s.val = 128 * r.val + a.val) (g half par : Fin 2) (h : Fin 8)
    (hh : h.val = 4 * g.val + 2 * half.val + par.val) (j : Fin 384) (p : Fin 4096)
    (qa qb : FVec Ideal S1x128x128 .f32) (kw : FVec Ideal S384x128 .bf16) (bias : FVec Ideal S1x384x256 .f32)
    (hqa : ∀ x : Fin 128, qa (ix3 0 a x) = queryTab Q (ix3 b s ⟨256 * g.val + x.val, by omega⟩))
    (hqb : ∀ x : Fin 128, qb (ix3 0 a x) = queryTab Q (ix3 b s ⟨256 * g.val + 128 + x.val, by omega⟩))
    (hk : ∀ x : Fin 128, kw (ix2 j x) = keyTab K (ix3 b p ⟨128 * (2 * g.val + par.val) + x.val, by omega⟩))
    (hb : ∀ u, bias (ix3 0 j u) = biasTab (ix3 ⟨4 * (edge r).val + (2 * g.val + par.val), by omega⟩ j u)) :
    biased (scoreTile qa qb kw) bias (ix2 j ⟨128 * half.val + a.val, by omega⟩)
      = if valid (ix3 r a j) = 1#1 then ((realScore Q K b s h g p (away a j) * (Real.log 2)⁻¹ : ℝ) : EReal) else ⊥ := by
  rw [biased_at, scoreTile_at, named_log2e, named_qscale, hb, biasTab_at, seen_eq_valid, bits_bot, select_eq]
  have hc : 0 < (Real.log 2)⁻¹ := inv_pos.mpr (Real.log_pos (by norm_num))
  by_cases hv : valid (ix3 r a j) = 1#1
  · rw [if_pos hv, if_pos hv]
    have e1 : ∀ x : Fin 128, kw (ix2 j x) * ((if h : 128 * half.val + a.val < 128 then qa (ix3 0 ⟨128 * half.val + a.val, h⟩ x)
        else qb (ix3 0 ⟨128 * half.val + a.val - 128, by omega⟩ x)) * ((1 / 8 * (Real.log 2)⁻¹ : ℝ) : EReal))
        = keyTab K (ix3 b p ⟨128 * (2 * g.val + par.val) + x.val, by omega⟩)
          * (queryTab Q (ix3 b s ⟨256 * g.val + 128 * half.val + x.val, by omega⟩) * ((1 / 8 * (Real.log 2)⁻¹ : ℝ) : EReal)) := by
      intro x
      rw [hk]
      congr 2
      rcases (show half.val = 0 ∨ half.val = 1 by omega) with e | e
      · rw [dif_pos (by omega)]
        have e' : (⟨128 * half.val + a.val, by omega⟩ : Fin 128) = a := Fin.ext (by dsimp only; omega)
        rw [e', hqa]
        exact congrArg (fun z => queryTab Q (ix3 b s z)) (Fin.ext (by dsimp only; omega))
      · rw [dif_neg (by omega)]
        have e' : (⟨128 * half.val + a.val - 128, by omega⟩ : Fin 128) = a := Fin.ext (by dsimp only; omega)
        rw [e', hqb]
        exact congrArg (fun z => queryTab Q (ix3 b s z)) (Fin.ext (by dsimp only; omega))
    have e2 : ∑ x : Fin 128, kw (ix2 j x) * ((if h : 128 * half.val + a.val < 128 then qa (ix3 0 ⟨128 * half.val + a.val, h⟩ x)
        else qb (ix3 0 ⟨128 * half.val + a.val - 128, by omega⟩ x)) * ((1 / 8 * (Real.log 2)⁻¹ : ℝ) : EReal))
        = ∑ d : Fin 64, (((K (ix4 b p g d)).toReal * ((Q (ix4 b s h d)).toReal * (1 / 8 * (Real.log 2)⁻¹)) : ℝ) : EReal) := by
      rw [Finset.sum_congr rfl fun x _ => e1 x]
      refine lanes_sum _ par _ fun q d => ?_
      have e3 : (⟨256 * g.val + 128 * half.val + (64 * q.val + d.val), by omega⟩ : Fin 512) = ⟨64 * (⟨4 * g.val + 2 * half.val + q.val, by omega⟩ : Fin 8).val + d.val, by dsimp only; omega⟩ :=
        Fin.ext (by dsimp only; omega)
      dsimp only
      rw [keyTab_at, e3, queryTab_at]
      split_ifs with hq
      · have e4 : (⟨4 * g.val + 2 * half.val + q.val, by omega⟩ : Fin 8) = h := Fin.ext (by dsimp only; rw [hq]; omega)
        rw [e4]
        exact (congrArg₂ (fun x y => x * (y * _)) (hK _) (hQ _)).trans (by rw [← EReal.coe_mul, ← EReal.coe_mul])
      · rw [zero_mul]
    dsimp only
    rw [e2, sum_coe, slopeDist_at]
    have e5 : (⟨4 * g.val + 2 * half.val + par.val, by omega⟩ : Fin 8) = h := Fin.ext hh.symm
    rw [e5, row8, lit_eq, slope_eq]
    unfold realScore away
    rw [← EReal.coe_neg, ← EReal.coe_mul, ← EReal.coe_mul, ← EReal.coe_add]
    congr 1
    rw [sub_mul, Finset.sum_mul]
    rw [sub_eq_add_neg]
    congr 1
    · exact Finset.sum_congr rfl fun d _ => by ring
    · ring
  · rw [if_neg hv, if_neg hv, EReal.bot_mul_coe_of_pos hc, EReal.add_bot]

include hQ hK hS in
/-- One output of one pair of the kernel is the reference's. -/
theorem pair_at (b : Fin 8) (r : Fin 32) (pos : Fin 384 → Fin 4096)
    (hpos : ∀ j : Fin 384, 128 ≤ 128 * r.val + j.val → 128 * r.val + j.val - 128 < 4096 → (pos j).val = 128 * r.val + j.val - 128)
    (g par : Fin 2) (qa qb : FVec Ideal S1x128x128 .f32) (kw : FVec Ideal S384x128 .bf16) (bias : FVec Ideal S1x384x256 .f32)
    (sink : FVec Ideal S1x1x1x256 .f32) (vt : FVec Ideal S80x384 .bf16)
    (hqa : ∀ a x : Fin 128, qa (ix3 0 a x) = queryTab Q (ix3 b ⟨128 * r.val + a.val, by omega⟩ ⟨256 * g.val + x.val, by omega⟩))
    (hqb : ∀ a x : Fin 128, qb (ix3 0 a x) = queryTab Q (ix3 b ⟨128 * r.val + a.val, by omega⟩ ⟨256 * g.val + 128 + x.val, by omega⟩))
    (hk : ∀ (j : Fin 384) (x : Fin 128), kw (ix2 j x) = keyTab K (ix3 b (pos j) ⟨128 * (2 * g.val + par.val) + x.val, by omega⟩))
    (hb : ∀ j u, bias (ix3 0 j u) = biasTab (ix3 ⟨4 * (edge r).val + (2 * g.val + par.val), by omega⟩ j u))
    (hs : ∀ u, sink (ix4 0 0 0 u) = sinkTab S (ix4 0 ⟨2 * g.val + par.val, by omega⟩ 0 u))
    (hv : ∀ (d : Fin 80) (j : Fin 384), vt (ix2 d j) = valTab V (ix2 ⟨80 * g.val + d.val, by omega⟩ ⟨4096 * b.val + (pos j).val, by omega⟩))
    (half : Fin 2) (a : Fin 128) (d : Fin 64) :
    outTile (scoreTile qa qb kw) bias sink vt (ix2 d ⟨128 * half.val + a.val, by omega⟩)
      = REF Q K V S (ix3 b ⟨128 * r.val + a.val, by omega⟩ ⟨256 * g.val + 128 * half.val + 64 * par.val + d.val, by omega⟩) := by
  have el : (⟨256 * g.val + 128 * half.val + 64 * par.val + d.val, by omega⟩ : Fin 512)
      = ⟨256 * g.val + 64 * (⟨2 * half.val + par.val, by omega⟩ : Fin 4).val + d.val, by dsimp only; omega⟩ := Fin.ext (by dsimp only; omega)
  have eh : (⟨g.val * 4 + (2 * half.val + par.val), by omega⟩ : Fin 8) = ⟨4 * g.val + 2 * half.val + par.val, by omega⟩ := Fin.ext (by dsimp only; omega)
  rw [el, REF_at, outTile_at, hs, sinkTab_at, named_log2e]
  dsimp only
  rw [eh]
  have et : S (ix1 ⟨4 * g.val + 2 * half.val + par.val, by omega⟩) * (((Real.log 2)⁻¹ : ℝ) : EReal)
      = (((S (ix1 ⟨4 * g.val + 2 * half.val + par.val, by omega⟩)).toReal * (Real.log 2)⁻¹ : ℝ) : EReal) := by
    rw [EReal.coe_mul, ← hS]
  rw [et, hS (ix1 ⟨4 * g.val + 2 * half.val + par.val, by omega⟩), EReal.toReal_coe]
  refine AttnMath.softmax (fun x => valid (ix3 r a x) = 1#1)
    (fun j => realScore Q K b ⟨128 * r.val + a.val, by omega⟩ ⟨4 * g.val + 2 * half.val + par.val, by omega⟩ g (pos j) (away a j)) _ _ _ _ _
    (fun j => ker_masked Q K hQ hK b r a ⟨128 * r.val + a.val, by omega⟩ rfl g half par _ rfl j (pos j) qa qb kw bias (hqa a) (hqb a) (hk j) (hb j))
    (fun j => ref_masked Q K hQ hK b r a ⟨128 * r.val + a.val, by omega⟩ rfl g half par _ rfl j (pos j)
      fun h => hpos j (inside_of_valid r a j h).1 (inside_of_valid r a j h).2)
    (fun j h => ?_) _ (fun j => ?_) _ _ ?_ ?_
  · obtain ⟨h1, h2⟩ := inside_of_valid r a j h
    rw [hv, window_at V b r j g d h1 h2]
    refine (valTab_at V b (pos j) g ⟨d.val, by omega⟩).trans ?_
    rw [dif_pos d.isLt]
    exact congrArg (fun z => V (ix4 b z g d)) (Fin.ext (hpos j h1 h2))
  · rw [hv]
    exact (valTab_at V b (pos j) g 64).trans (dif_neg (by decide))
  · rw [topRow_at, bits_bot, hs, sinkTab_at, named_log2e, et]
  · rw [top_at, bits_bot]
    dsimp only
    rw [eh]
    exact congrArg _ (hS _)
end Cert.AttnPair
end
-- ==== Proof.AttnRows.lean ====
module

public import proofs.«01_k».proof.Proof.AttnBlock

@[expose] public section

set_option maxRecDepth 16384
noncomputable section
open Idealize.ShloMosaic Idealize.ShloMosaic.TcCoe

/-! The stored rows of the attention kernel, each from the loads of its turn: every turn of the
    unrolled loop computes `rowOf`, the first and the last with a window put together from two loads. -/

namespace Cert.KernelIdeal.Value
open Cert.KernelIdeal Cert.KernelIdeal.Gen

/-- One turn: the four pairs of heads from their queries, keys, sinks, biases and values. -/
def rowOf (q00 q01 q10 q11 : FVec Ideal S1x128x128 .f32) (k0 k1 k2 k3 : FVec Ideal S384x128 .bf16) (s0 s1 s2 s3 : FVec Ideal S1x1x1x256 .f32)
    (b0 b1 b2 b3 : FVec Ideal S1x384x256 .f32) (v0 v1 : FVec Ideal S80x384 .bf16) : FVec Ideal S1x128x512 .bf16 :=
  rowTile (outTile (scoreTile q00 q01 k0) b0 s0 v0) (outTile (scoreTile q00 q01 k1) b1 s1 v0)
    (outTile (scoreTile q10 q11 k2) b2 s2 v1) (outTile (scoreTile q10 q11 k3) b3 s3 v1)

/-- The first turn's window of keys: the last block before the run, then the first two of the run. -/
def keysFirst (e : FVec Ideal S1x128x128 .bf16) (k : FVec Ideal S1x256x128 .bf16) : FVec Ideal S384x128 .bf16 :=
  concatenate S384x128 0 [⟨S128x128, shapeCast S128x128 e shapeCasts_S1x128x128_S128x128⟩, ⟨S256x128, shapeCast S256x128 k shapeCasts_S1x256x128_S256x128⟩] concatenates_S128x128_S256x128_S384x128_d0

/-- The last turn's window of keys: the last two blocks of the run, then the one after it. -/
def keysLast (k : FVec Ideal S1x256x128 .bf16) (e : FVec Ideal S1x128x128 .bf16) : FVec Ideal S384x128 .bf16 :=
  concatenate S384x128 0 [⟨S256x128, shapeCast S256x128 k shapeCasts_S1x256x128_S256x128⟩, ⟨S128x128, shapeCast S128x128 e shapeCasts_S1x128x128_S128x128⟩] concatenates_S256x128_S128x128_S384x128_d0

/-- The window of values, as loaded. -/
def vals (v : FVec Ideal S80x384 .bf16) : FVec Ideal S80x384 .bf16 := shapeCast S80x384 v shapeCasts_S80x384_S80x384

/-- The first turn's window of values. -/
def valsFirst (w : FVec Ideal S80x128 .bf16) (v : FVec Ideal S80x256 .bf16) : FVec Ideal S80x384 .bf16 :=
  concatenate S80x384 1 [⟨S80x128, shapeCast S80x128 w shapeCasts_S80x128_S80x128⟩, ⟨S80x256, shapeCast S80x256 v shapeCasts_S80x256_S80x256⟩] concatenates_S80x128_S80x256_S80x384_d1

/-- The last turn's window of values. -/
def valsLast (v : FVec Ideal S80x256 .bf16) (w : FVec Ideal S80x128 .bf16) : FVec Ideal S80x384 .bf16 :=
  concatenate S80x384 1 [⟨S80x256, shapeCast S80x256 v shapeCasts_S80x256_S80x256⟩, ⟨S80x128, shapeCast S80x128 w shapeCasts_S80x128_S80x128⟩] concatenates_S80x256_S80x128_S80x384_d1

variable (q00 q01 q10 q11 : FVec Ideal S1x128x128 .f32) (s0 s1 s2 s3 : FVec Ideal S1x1x1x256 .f32) (b0 b1 b2 b3 : FVec Ideal S1x384x256 .f32)

/-- Turn 0. -/
theorem row0 (k0 k1 k2 k3 : FVec Ideal S1x256x128 .bf16) (e0 e1 e2 e3 : FVec Ideal S1x128x128 .bf16) (v0 v1 : FVec Ideal S80x256 .bf16) (w0 w1 : FVec Ideal S80x128 .bf16) :
    k0_pay35 (k0_pay34 (k0_pay18 (k0_pay14 s0) (k0_pay15 (k0_pay2 q00 q01 e0 k0) b0 s0) (k0_pay16 (k0_pay2 q00 q01 e0 k0) b0 s0) w0 v0) (k0_pay19
      (k0_pay14 s0) (k0_pay15 (k0_pay2 q00 q01 e0 k0) b0 s0) (k0_pay16 (k0_pay2 q00 q01 e0 k0) b0 s0) w0 v0) (k0_pay23 (k0_pay21 (k0_pay5 (k0_pay3 q00
      q01) (k0_pay4 e1) k1)) b1 s1 w0 v0) (k0_pay24 (k0_pay21 (k0_pay5 (k0_pay3 q00 q01) (k0_pay4 e1) k1)) b1 s1 w0 v0) (k0_pay31 (k0_pay27 (k0_pay6
      q10 q11 e2 k2) b2) (k0_pay28 s2) (k0_pay29 (k0_pay6 q10 q11 e2 k2) b2 s2) w1 v1) (k0_pay32 (k0_pay27 (k0_pay6 q10 q11 e2 k2) b2) (k0_pay28 s2)
      (k0_pay29 (k0_pay6 q10 q11 e2 k2) b2 s2) w1 v1) (k0_pay9 (k0_pay7 q10 q11) k0_pay8 e3 k3) b3 s3 w1 v1)
    = rowOf q00 q01 q10 q11 (keysFirst e0 k0) (keysFirst e1 k1) (keysFirst e2 k2) (keysFirst e3 k3) s0 s1 s2 s3 b0 b1 b2 b3 (valsFirst w0 v0) (valsFirst w1 v1) := by
  dsimp only [rowOf, rowTile, outTile, weighted, topRow, sinkRow, biased, scoreTile, leftHalf, rightHalf, keys, keysFirst, keysLast, vals, valsFirst, valsLast,
    k0_pay2, k0_pay3, k0_pay4, k0_pay5, k0_pay6, k0_pay7, k0_pay8, k0_pay9, k0_pay14, k0_pay15, k0_pay16, k0_pay18, k0_pay19, k0_pay21, k0_pay23,
    k0_pay24, k0_pay27, k0_pay28, k0_pay29, k0_pay31, k0_pay32, k0_pay34, k0_pay35, k0_pay13, k0_pay17, k0_pay22, k0_pay30]

/-- Turn 1. -/
theorem row1 (k0 k1 k2 k3 : FVec Ideal S1x384x128 .bf16) (v0 v1 : FVec Ideal S80x384 .bf16) :
    k0_pay63 (k0_pay41 (k0_pay37 (k0_pay10 q00 q01 k0) b0) (k0_pay38 s0) k0_pay39 v0) (k0_pay42 (k0_pay37 (k0_pay10 q00 q01 k0) b0) (k0_pay38 s0)
      k0_pay39 v0) (k0_pay45 (k0_pay12 (k0_pay11 q00) q01 k1) b1 s1 v0) (k0_pay46 (k0_pay12 (k0_pay11 q00) q01 k1) b1 s1 v0) (k0_pay56 (k0_pay53
      (k0_pay20 q10 q11 k2) b2 s2 v1) (k0_pay54 (k0_pay20 q10 q11 k2) b2 s2 v1)) (k0_pay57 (k0_pay53 (k0_pay20 q10 q11 k2) b2 s2 v1) (k0_pay54
      (k0_pay20 q10 q11 k2) b2 s2 v1)) (k0_pay59 (k0_pay26 (k0_pay25 q10) q11 k3) b3) (k0_pay60 s3) (k0_pay61 (k0_pay26 (k0_pay25 q10) q11 k3) b3 s3)
      (k0_pay62 (k0_pay26 (k0_pay25 q10) q11 k3) b3 s3) v1
    = rowOf q00 q01 q10 q11 (keys k0) (keys k1) (keys k2) (keys k3) s0 s1 s2 s3 b0 b1 b2 b3 (vals v0) (vals v1) := by
  dsimp only [rowOf, rowTile, outTile, weighted, topRow, sinkRow, biased, scoreTile, leftHalf, rightHalf, keys, keysFirst, keysLast, vals, valsFirst, valsLast,
    k0_pay10, k0_pay11, k0_pay12, k0_pay20, k0_pay25, k0_pay26, k0_pay37, k0_pay38, k0_pay39, k0_pay41, k0_pay42, k0_pay45, k0_pay46, k0_pay53, k0_pay54,
    k0_pay56, k0_pay57, k0_pay59, k0_pay60, k0_pay61, k0_pay62, k0_pay63, k0_pay40, k0_pay44, k0_pay52, k0_pay50, k0_pay51, k0_pay55, k0_pay49]

/-- Turn 2. -/
theorem row2 (k0 k1 k2 k3 : FVec Ideal S1x384x128 .bf16) (v0 v1 : FVec Ideal S80x384 .bf16) :
    k0_pay87 (k0_pay66 (k0_pay33 q00 q01 k0) b0 s0 v0) (k0_pay67 (k0_pay33 q00 q01 k0) b0 s0 v0) (k0_pay77 (k0_pay74 (k0_pay36 q00 q01 k1) b1 s1 v0)
      (k0_pay75 (k0_pay36 q00 q01 k1) b1 s1 v0)) (k0_pay78 (k0_pay74 (k0_pay36 q00 q01 k1) b1 s1 v0) (k0_pay75 (k0_pay36 q00 q01 k1) b1 s1 v0))
      (k0_pay83 (k0_pay80 (k0_pay43 q10 q11 k2) b2) (k0_pay81 s2) v1) (k0_pay84 (k0_pay80 (k0_pay43 q10 q11 k2) b2) (k0_pay81 s2) v1) (k0_pay86
      (k0_pay48 (k0_pay47 q10 q11) k3)) b3 s3 v1
    = rowOf q00 q01 q10 q11 (keys k0) (keys k1) (keys k2) (keys k3) s0 s1 s2 s3 b0 b1 b2 b3 (vals v0) (vals v1) := by
  dsimp only [rowOf, rowTile, outTile, weighted, topRow, sinkRow, biased, scoreTile, leftHalf, rightHalf, keys, keysFirst, keysLast, vals, valsFirst, valsLast,
    k0_pay33, k0_pay36, k0_pay43, k0_pay47, k0_pay48, k0_pay66, k0_pay67, k0_pay74, k0_pay75, k0_pay77, k0_pay78, k0_pay80, k0_pay81, k0_pay83, k0_pay84,
    k0_pay86, k0_pay87, k0_pay65, k0_pay73, k0_pay71, k0_pay72, k0_pay76, k0_pay82, k0_pay70]

/-- Turn 3. -/
theorem row3 (k0 k1 k2 k3 : FVec Ideal S1x384x128 .bf16) (v0 v1 : FVec Ideal S80x384 .bf16) :
    k0_pay118 (k0_pay96 (k0_pay91 s0) (k0_pay92 (k0_pay58 q00 q01 k0) b0 s0) (k0_pay93 (k0_pay58 q00 q01 k0) b0 s0 v0) (k0_pay94 (k0_pay58 q00 q01 k0)
      b0 s0 v0)) (k0_pay97 (k0_pay91 s0) (k0_pay92 (k0_pay58 q00 q01 k0) b0 s0) (k0_pay93 (k0_pay58 q00 q01 k0) b0 s0 v0) (k0_pay94 (k0_pay58 q00 q01
      k0) b0 s0 v0)) (k0_pay102 (k0_pay99 (k0_pay64 q00 q01 k1) b1) (k0_pay100 s1) v0) (k0_pay103 (k0_pay99 (k0_pay64 q00 q01 k1) b1) (k0_pay100 s1)
      v0) (k0_pay106 (k0_pay69 (k0_pay68 q10 q11) k2) b2 s2 v1) (k0_pay107 (k0_pay69 (k0_pay68 q10 q11) k2) b2 s2 v1) (k0_pay115 (k0_pay79 q10 q11 k3)
      b3 s3 v1) (k0_pay116 (k0_pay79 q10 q11 k3) b3 s3 v1) k0_pay117
    = rowOf q00 q01 q10 q11 (keys k0) (keys k1) (keys k2) (keys k3) s0 s1 s2 s3 b0 b1 b2 b3 (vals v0) (vals v1) := by
  dsimp only [rowOf, rowTile, outTile, weighted, topRow, sinkRow, biased, scoreTile, leftHalf, rightHalf, keys, keysFirst, keysLast, vals, valsFirst, valsLast,
    k0_pay58, k0_pay64, k0_pay68, k0_pay69, k0_pay79, k0_pay91, k0_pay92, k0_pay93, k0_pay94, k0_pay96, k0_pay97, k0_pay99, k0_pay100, k0_pay102,
    k0_pay103, k0_pay106, k0_pay107, k0_pay115, k0_pay116, k0_pay117, k0_pay118, k0_pay90, k0_pay95, k0_pay101, k0_pay105, k0_pay114, k0_pay112,
    k0_pay113, k0_pay111]

/-- Turn 4. -/
theorem row4 (k0 k1 k2 k3 : FVec Ideal S1x384x128 .bf16) (v0 v1 : FVec Ideal S80x384 .bf16) :
    k0_pay144 (k0_pay122 (k0_pay120 (k0_pay85 q00 q01 k0) b0) s0 v0) (k0_pay123 (k0_pay120 (k0_pay85 q00 q01 k0) b0) s0 v0) (k0_pay127 (k0_pay89
      (k0_pay88 q00) q01 k1) b1 s1 v0) (k0_pay128 (k0_pay89 (k0_pay88 q00) q01 k1) b1 s1 v0) (k0_pay138 (k0_pay134 (k0_pay98 q10 q11 k2) b2 s2 v1)
      (k0_pay135 (k0_pay98 q10 q11 k2) b2 s2 v1) (k0_pay136 (k0_pay98 q10 q11 k2) b2 s2)) (k0_pay139 (k0_pay134 (k0_pay98 q10 q11 k2) b2 s2 v1)
      (k0_pay135 (k0_pay98 q10 q11 k2) b2 s2 v1) (k0_pay136 (k0_pay98 q10 q11 k2) b2 s2)) (k0_pay141 (k0_pay104 q10 q11 k3) b3) (k0_pay142 s3)
      k0_pay143 v1
    = rowOf q00 q01 q10 q11 (keys k0) (keys k1) (keys k2) (keys k3) s0 s1 s2 s3 b0 b1 b2 b3 (vals v0) (vals v1) := by
  dsimp only [rowOf, rowTile, outTile, weighted, topRow, sinkRow, biased, scoreTile, leftHalf, rightHalf, keys, keysFirst, keysLast, vals, valsFirst, valsLast,
    k0_pay85, k0_pay88, k0_pay89, k0_pay98, k0_pay104, k0_pay120, k0_pay122, k0_pay123, k0_pay127, k0_pay128, k0_pay134, k0_pay135, k0_pay136, k0_pay138,
    k0_pay139, k0_pay141, k0_pay142, k0_pay143, k0_pay144, k0_pay121, k0_pay126, k0_pay133, k0_pay131, k0_pay132, k0_pay137]

/-- Turn 5. -/
theorem row5 (k0 k1 k2 k3 : FVec Ideal S1x384x128 .bf16) (v0 v1 : FVec Ideal S80x384 .bf16) :
    k0_pay166 (k0_pay148 (k0_pay110 (k0_pay108 q00 q01) k0_pay109 k0) b0 s0 v0) (k0_pay149 (k0_pay110 (k0_pay108 q00 q01) k0_pay109 k0) b0 s0 v0)
      (k0_pay158 (k0_pay153 s1) (k0_pay154 (k0_pay119 q00 q01 k1) b1 s1) (k0_pay155 (k0_pay119 q00 q01 k1) b1 s1) (k0_pay156 v0) (constant S80x256
      .f32 0x00000000#32)) (k0_pay159 (k0_pay153 s1) (k0_pay154 (k0_pay119 q00 q01 k1) b1 s1) (k0_pay155 (k0_pay119 q00 q01 k1) b1 s1) (k0_pay156 v0)
      (constant S80x256 .f32 0x00000000#32)) (k0_pay163 (k0_pay161 (k0_pay125 (k0_pay124 q10 q11 k2)) b2) s2 v1) (k0_pay164 (k0_pay161 (k0_pay125
      (k0_pay124 q10 q11 k2)) b2) s2 v1) (k0_pay130 (k0_pay129 q10) q11 k3) b3 s3 v1
    = rowOf q00 q01 q10 q11 (keys k0) (keys k1) (keys k2) (keys k3) s0 s1 s2 s3 b0 b1 b2 b3 (vals v0) (vals v1) := by
  dsimp only [rowOf, rowTile, outTile, weighted, topRow, sinkRow, biased, scoreTile, leftHalf, rightHalf, keys, keysFirst, keysLast, vals, valsFirst, valsLast,
    k0_pay108, k0_pay109, k0_pay110, k0_pay119, k0_pay124, k0_pay125, k0_pay129, k0_pay130, k0_pay148, k0_pay149, k0_pay153, k0_pay154, k0_pay155,
    k0_pay156, k0_pay158, k0_pay159, k0_pay161, k0_pay163, k0_pay164, k0_pay166, k0_pay147, k0_pay152, k0_pay157, k0_pay162]

/-- Turn 6. -/
theorem row6 (k0 k1 k2 k3 : FVec Ideal S1x384x128 .bf16) (v0 v1 : FVec Ideal S80x384 .bf16) :
    k0_pay192 (k0_pay173 (k0_pay169 s0) (k0_pay170 (k0_pay140 q00 q01 k0) b0 s0) (k0_pay171 (k0_pay140 q00 q01 k0) b0 s0) v0) (k0_pay174 (k0_pay169
      s0) (k0_pay170 (k0_pay140 q00 q01 k0) b0 s0) (k0_pay171 (k0_pay140 q00 q01 k0) b0 s0) v0) (k0_pay178 (k0_pay176 (k0_pay146 (k0_pay145 q00 q01
      k1)) b1) s1 v0) (k0_pay179 (k0_pay176 (k0_pay146 (k0_pay145 q00 q01 k1)) b1) s1 v0) (k0_pay183 (k0_pay151 (k0_pay150 q10) q11 k2) b2 s2 v1)
      (k0_pay184 (k0_pay151 (k0_pay150 q10) q11 k2) b2 s2 v1) (k0_pay188 s3) (k0_pay189 (k0_pay160 q10 q11 k3) b3 s3) (k0_pay190 (k0_pay160 q10 q11
      k3) b3 s3 v1) (k0_pay191 (k0_pay160 q10 q11 k3) b3 s3 v1)
    = rowOf q00 q01 q10 q11 (keys k0) (keys k1) (keys k2) (keys k3) s0 s1 s2 s3 b0 b1 b2 b3 (vals v0) (vals v1) := by
  dsimp only [rowOf, rowTile, outTile, weighted, topRow, sinkRow, biased, scoreTile, leftHalf, rightHalf, keys, keysFirst, keysLast, vals, valsFirst, valsLast,
    k0_pay140, k0_pay145, k0_pay146, k0_pay150, k0_pay151, k0_pay160, k0_pay169, k0_pay170, k0_pay171, k0_pay173, k0_pay174, k0_pay176, k0_pay178,
    k0_pay179, k0_pay183, k0_pay184, k0_pay188, k0_pay189, k0_pay190, k0_pay191, k0_pay192, k0_pay168, k0_pay172, k0_pay177, k0_pay182, k0_pay187]

/-- Turn 7. -/
theorem row7 (k0 k1 k2 k3 : FVec Ideal S1x384x128 .bf16) (v0 v1 : FVec Ideal S80x384 .bf16) :
    k0_pay215 (k0_pay197 (k0_pay194 (k0_pay165 q00 q01 k0)) (k0_pay195 b0) s0 v0) (k0_pay198 (k0_pay194 (k0_pay165 q00 q01 k0)) (k0_pay195 b0) s0 v0)
      (k0_pay203 (k0_pay167 q00 q01 k1) b1 s1 v0) (k0_pay204 (k0_pay167 q00 q01 k1) b1 s1 v0) (k0_pay211 (k0_pay207 s2) (k0_pay208 (k0_pay175 q10 q11
      k2) b2 s2) (k0_pay209 (k0_pay175 q10 q11 k2) b2 s2) v1) (k0_pay212 (k0_pay207 s2) (k0_pay208 (k0_pay175 q10 q11 k2) b2 s2) (k0_pay209 (k0_pay175
      q10 q11 k2) b2 s2) v1) (k0_pay214 (k0_pay181 (k0_pay180 q10 q11 k3)) b3) s3 v1
    = rowOf q00 q01 q10 q11 (keys k0) (keys k1) (keys k2) (keys k3) s0 s1 s2 s3 b0 b1 b2 b3 (vals v0) (vals v1) := by
  dsimp only [rowOf, rowTile, outTile, weighted, topRow, sinkRow, biased, scoreTile, leftHalf, rightHalf, keys, keysFirst, keysLast, vals, valsFirst, valsLast,
    k0_pay165, k0_pay167, k0_pay175, k0_pay180, k0_pay181, k0_pay194, k0_pay195, k0_pay197, k0_pay198, k0_pay203, k0_pay204, k0_pay207, k0_pay208,
    k0_pay209, k0_pay211, k0_pay212, k0_pay214, k0_pay215, k0_pay196, k0_pay202, k0_pay206, k0_pay210]

/-- Turn 8. -/
theorem row8 (k0 k1 k2 k3 : FVec Ideal S1x384x128 .bf16) (v0 v1 : FVec Ideal S80x384 .bf16) :
    k0_pay239 (k0_pay238 (k0_pay219 (k0_pay186 (k0_pay185 q00) q01 k0) b0 s0 v0) (k0_pay220 (k0_pay218 (k0_pay186 (k0_pay185 q00) q01 k0) b0 s0 v0))
      (k0_pay227 (k0_pay223 s1) (k0_pay224 (k0_pay193 q00 q01 k1) b1 s1) (k0_pay225 (k0_pay193 q00 q01 k1) b1 s1) v0) (k0_pay228 (k0_pay223 s1)
      (k0_pay224 (k0_pay193 q00 q01 k1) b1 s1) (k0_pay225 (k0_pay193 q00 q01 k1) b1 s1) v0) (k0_pay234 (k0_pay230 (k0_pay201 (k0_pay199 q10 q11)
      (k0_pay200 k2) (constant S384x256 .f32 0x00000000#32))) (k0_pay231 b2) k0_pay232 s2 v1) (k0_pay235 (k0_pay230 (k0_pay201 (k0_pay199 q10 q11)
      (k0_pay200 k2) (constant S384x256 .f32 0x00000000#32))) (k0_pay231 b2) k0_pay232 s2 v1) (k0_pay205 q10 q11 k3) b3 s3 v1)
    = rowOf q00 q01 q10 q11 (keys k0) (keys k1) (keys k2) (keys k3) s0 s1 s2 s3 b0 b1 b2 b3 (vals v0) (vals v1) := by
  dsimp only [rowOf, rowTile, outTile, weighted, topRow, sinkRow, biased, scoreTile, leftHalf, rightHalf, keys, keysFirst, keysLast, vals, valsFirst, valsLast,
    k0_pay185, k0_pay186, k0_pay193, k0_pay199, k0_pay200, k0_pay201, k0_pay205, k0_pay218, k0_pay219, k0_pay220, k0_pay223, k0_pay224, k0_pay225,
    k0_pay227, k0_pay228, k0_pay230, k0_pay231, k0_pay232, k0_pay234, k0_pay235, k0_pay238, k0_pay239, k0_pay222, k0_pay226, k0_pay233]

/-- Turn 9. -/
theorem row9 (k0 k1 k2 k3 : FVec Ideal S1x384x128 .bf16) (v0 v1 : FVec Ideal S80x384 .bf16) :
    k0_pay262 (k0_pay245 (k0_pay241 (k0_pay213 q00 q01 k0) b0) (k0_pay242 s0) (k0_pay243 (k0_pay213 q00 q01 k0) b0) v0) (k0_pay246 (k0_pay241
      (k0_pay213 q00 q01 k0) b0) (k0_pay242 s0) (k0_pay243 (k0_pay213 q00 q01 k0) b0) v0) (k0_pay250 (k0_pay248 (k0_pay217 (k0_pay216 q00 q01) k1)) b1
      s1 v0) (k0_pay251 (k0_pay248 (k0_pay217 (k0_pay216 q00 q01) k1)) b1 s1 v0) (k0_pay255 (k0_pay221 q10 q11 k2) b2 s2 v1) (k0_pay256 (k0_pay221 q10
      q11 k2) b2 s2 v1) (k0_pay259 s3) (k0_pay260 (k0_pay229 q10 q11 k3) b3 s3) (k0_pay261 (k0_pay229 q10 q11 k3) b3 s3) v1
    = rowOf q00 q01 q10 q11 (keys k0) (keys k1) (keys k2) (keys k3) s0 s1 s2 s3 b0 b1 b2 b3 (vals v0) (vals v1) := by
  dsimp only [rowOf, rowTile, outTile, weighted, topRow, sinkRow, biased, scoreTile, leftHalf, rightHalf, keys, keysFirst, keysLast, vals, valsFirst, valsLast,
    k0_pay213, k0_pay216, k0_pay217, k0_pay221, k0_pay229, k0_pay241, k0_pay242, k0_pay243, k0_pay245, k0_pay246, k0_pay248, k0_pay250, k0_pay251,
    k0_pay255, k0_pay256, k0_pay259, k0_pay260, k0_pay261, k0_pay262, k0_pay244, k0_pay249, k0_pay254, k0_pay258]

/-- Turn 10. -/
theorem row10 (k0 k1 k2 k3 : FVec Ideal S1x384x128 .bf16) (v0 v1 : FVec Ideal S80x384 .bf16) :
    k0_pay289 (k0_pay265 (k0_pay237 (k0_pay236 q00 q01 k0)) b0 s0 v0) (k0_pay266 (k0_pay237 (k0_pay236 q00 q01 k0)) b0 s0 v0) (k0_pay276 (k0_pay273
      (k0_pay240 q00 q01 k1) b1 s1 v0) (k0_pay274 (k0_pay240 q00 q01 k1) b1 s1 v0)) (k0_pay277 (k0_pay273 (k0_pay240 q00 q01 k1) b1 s1 v0) (k0_pay274
      (k0_pay240 q00 q01 k1) b1 s1 v0)) (k0_pay284 (k0_pay279 (k0_pay247 q10 q11 k2) b2) (k0_pay280 s2) (k0_pay281 (k0_pay247 q10 q11 k2) b2 s2)
      (k0_pay282 (k0_pay247 q10 q11 k2) b2 s2) v1) (k0_pay285 (k0_pay279 (k0_pay247 q10 q11 k2) b2) (k0_pay280 s2) (k0_pay281 (k0_pay247 q10 q11 k2)
      b2 s2) (k0_pay282 (k0_pay247 q10 q11 k2) b2 s2) v1) (k0_pay287 (k0_pay253 (k0_pay252 q10 q11) k3)) (k0_pay288 b3) s3 v1
    = rowOf q00 q01 q10 q11 (keys k0) (keys k1) (keys k2) (keys k3) s0 s1 s2 s3 b0 b1 b2 b3 (vals v0) (vals v1) := by
  dsimp only [rowOf, rowTile, outTile, weighted, topRow, sinkRow, biased, scoreTile, leftHalf, rightHalf, keys, keysFirst, keysLast, vals, valsFirst, valsLast,
    k0_pay236, k0_pay237, k0_pay240, k0_pay247, k0_pay252, k0_pay253, k0_pay265, k0_pay266, k0_pay273, k0_pay274, k0_pay276, k0_pay277, k0_pay279,
    k0_pay280, k0_pay281, k0_pay282, k0_pay284, k0_pay285, k0_pay287, k0_pay288, k0_pay289, k0_pay264, k0_pay272, k0_pay270, k0_pay271, k0_pay275,
    k0_pay283, k0_pay269]

/-- Turn 11. -/
theorem row11 (k0 k1 k2 k3 : FVec Ideal S1x384x128 .bf16) (v0 v1 : FVec Ideal S80x384 .bf16) :
    k0_pay316 (k0_pay299 (k0_pay296 (k0_pay257 q00 q01 k0) b0 s0 v0) (k0_pay297 (k0_pay257 q00 q01 k0) b0 s0 v0)) (k0_pay300 (k0_pay296 (k0_pay257 q00
      q01 k0) b0 s0 v0) (k0_pay297 (k0_pay257 q00 q01 k0) b0 s0 v0)) (k0_pay305 (k0_pay302 (k0_pay263 q00 q01 k1) b1) (k0_pay303 s1) v0) (k0_pay306
      (k0_pay302 (k0_pay263 q00 q01 k1) b1) (k0_pay303 s1) v0) (k0_pay310 (k0_pay308 (k0_pay268 (k0_pay267 q10 q11) k2)) b2 s2 v1) (k0_pay311
      (k0_pay308 (k0_pay268 (k0_pay267 q10 q11) k2)) b2 s2 v1) (k0_pay314 (k0_pay278 q10 q11 k3) b3 s3 v1) (k0_pay315 (k0_pay278 q10 q11 k3) b3 s3 v1)
    = rowOf q00 q01 q10 q11 (keys k0) (keys k1) (keys k2) (keys k3) s0 s1 s2 s3 b0 b1 b2 b3 (vals v0) (vals v1) := by
  dsimp only [rowOf, rowTile, outTile, weighted, topRow, sinkRow, biased, scoreTile, leftHalf, rightHalf, keys, keysFirst, keysLast, vals, valsFirst, valsLast,
    k0_pay257, k0_pay263, k0_pay267, k0_pay268, k0_pay278, k0_pay296, k0_pay297, k0_pay299, k0_pay300, k0_pay302, k0_pay303, k0_pay305, k0_pay306,
    k0_pay308, k0_pay310, k0_pay311, k0_pay314, k0_pay315, k0_pay316, k0_pay295, k0_pay293, k0_pay294, k0_pay298, k0_pay304, k0_pay309, k0_pay292]

/-- Turn 12. -/
theorem row12 (k0 k1 k2 k3 : FVec Ideal S1x384x128 .bf16) (v0 v1 : FVec Ideal S80x384 .bf16) :
    k0_pay344 (k0_pay321 (k0_pay318 (k0_pay286 q00 q01 k0) b0) (k0_pay319 s0) v0) (k0_pay322 (k0_pay318 (k0_pay286 q00 q01 k0) b0) (k0_pay319 s0) v0)
      (k0_pay325 (k0_pay291 (k0_pay290 q00 q01) k1) b1 s1 v0) (k0_pay326 (k0_pay291 (k0_pay290 q00 q01) k1) b1 s1 v0) (k0_pay338 (k0_pay334 (k0_pay301
      q10 q11 k2) b2 s2 v1) (k0_pay335 (k0_pay301 q10 q11 k2) b2 s2 v1) k0_pay336) (k0_pay339 (k0_pay334 (k0_pay301 q10 q11 k2) b2 s2 v1) (k0_pay335
      (k0_pay301 q10 q11 k2) b2 s2 v1) k0_pay336) (k0_pay341 (k0_pay307 q10 q11 k3) b3) (k0_pay342 s3) (k0_pay343 (k0_pay307 q10 q11 k3) b3) v1
    = rowOf q00 q01 q10 q11 (keys k0) (keys k1) (keys k2) (keys k3) s0 s1 s2 s3 b0 b1 b2 b3 (vals v0) (vals v1) := by
  dsimp only [rowOf, rowTile, outTile, weighted, topRow, sinkRow, biased, scoreTile, leftHalf, rightHalf, keys, keysFirst, keysLast, vals, valsFirst, valsLast,
    k0_pay286, k0_pay290, k0_pay291, k0_pay301, k0_pay307, k0_pay318, k0_pay319, k0_pay321, k0_pay322, k0_pay325, k0_pay326, k0_pay334, k0_pay335,
    k0_pay336, k0_pay338, k0_pay339, k0_pay341, k0_pay342, k0_pay343, k0_pay344, k0_pay320, k0_pay324, k0_pay333, k0_pay331, k0_pay332, k0_pay337,
    k0_pay330]

/-- Turn 13. -/
theorem row13 (k0 k1 k2 k3 : FVec Ideal S1x384x128 .bf16) (v0 v1 : FVec Ideal S80x384 .bf16) :
    k0_pay369 (k0_pay348 (k0_pay313 (k0_pay312 q00 q01) k0) b0 s0 v0) (k0_pay349 (k0_pay313 (k0_pay312 q00 q01) k0) b0 s0 v0) (k0_pay359 (k0_pay355
      (k0_pay317 q00 q01 k1) b1 s1 v0) (k0_pay356 (k0_pay317 q00 q01 k1) b1 s1 v0) (k0_pay357 (k0_pay317 q00 q01 k1) b1 s1)) (k0_pay360 (k0_pay355
      (k0_pay317 q00 q01 k1) b1 s1 v0) (k0_pay356 (k0_pay317 q00 q01 k1) b1 s1 v0) (k0_pay357 (k0_pay317 q00 q01 k1) b1 s1)) (k0_pay366 (k0_pay362
      (k0_pay323 q10 q11 k2) b2) (k0_pay363 s2) k0_pay364 v1) (k0_pay367 (k0_pay362 (k0_pay323 q10 q11 k2) b2) (k0_pay363 s2) k0_pay364 v1) (k0_pay329
      (k0_pay327 q10 q11) k0_pay328 k3) b3 s3 v1
    = rowOf q00 q01 q10 q11 (keys k0) (keys k1) (keys k2) (keys k3) s0 s1 s2 s3 b0 b1 b2 b3 (vals v0) (vals v1) := by
  dsimp only [rowOf, rowTile, outTile, weighted, topRow, sinkRow, biased, scoreTile, leftHalf, rightHalf, keys, keysFirst, keysLast, vals, valsFirst, valsLast,
    k0_pay312, k0_pay313, k0_pay317, k0_pay323, k0_pay327, k0_pay328, k0_pay329, k0_pay348, k0_pay349, k0_pay355, k0_pay356, k0_pay357, k0_pay359,
    k0_pay360, k0_pay362, k0_pay363, k0_pay364, k0_pay366, k0_pay367, k0_pay369, k0_pay347, k0_pay354, k0_pay352, k0_pay353, k0_pay358, k0_pay365]

/-- Turn 14. -/
theorem row14 (k0 k1 k2 k3 : FVec Ideal S1x384x128 .bf16) (v0 v1 : FVec Ideal S80x384 .bf16) :
    k0_pay397 (k0_pay378 (k0_pay373 s0) (k0_pay374 (k0_pay340 q00 q01 k0) b0 s0) (k0_pay375 (k0_pay340 q00 q01 k0) b0 s0) (k0_pay376 v0) (constant
      S80x256 .f32 0x00000000#32)) (k0_pay379 (k0_pay373 s0) (k0_pay374 (k0_pay340 q00 q01 k0) b0 s0) (k0_pay375 (k0_pay340 q00 q01 k0) b0 s0)
      (k0_pay376 v0) (constant S80x256 .f32 0x00000000#32)) (k0_pay383 (k0_pay381 (k0_pay346 (k0_pay345 q00 q01 k1)) b1) s1 v0) (k0_pay384 (k0_pay381
      (k0_pay346 (k0_pay345 q00 q01 k1)) b1) s1 v0) (k0_pay387 (k0_pay351 (k0_pay350 q10) q11 k2) b2 s2 v1) (k0_pay388 (k0_pay351 (k0_pay350 q10) q11
      k2) b2 s2 v1) (k0_pay395 (k0_pay361 q10 q11 k3) b3 s3 v1) (k0_pay396 (k0_pay361 q10 q11 k3) b3 s3 v1)
    = rowOf q00 q01 q10 q11 (keys k0) (keys k1) (keys k2) (keys k3) s0 s1 s2 s3 b0 b1 b2 b3 (vals v0) (vals v1) := by
  dsimp only [rowOf, rowTile, outTile, weighted, topRow, sinkRow, biased, scoreTile, leftHalf, rightHalf, keys, keysFirst, keysLast, vals, valsFirst, valsLast,
    k0_pay340, k0_pay345, k0_pay346, k0_pay350, k0_pay351, k0_pay361, k0_pay373, k0_pay374, k0_pay375, k0_pay376, k0_pay378, k0_pay379, k0_pay381,
    k0_pay383, k0_pay384, k0_pay387, k0_pay388, k0_pay395, k0_pay396, k0_pay397, k0_pay372, k0_pay377, k0_pay382, k0_pay386, k0_pay394, k0_pay392,
    k0_pay393, k0_pay391]

/-- Turn 15. -/
theorem row15 (k0 k1 k2 k3 : FVec Ideal S1x384x128 .bf16) (v0 v1 : FVec Ideal S80x384 .bf16) :
    k0_pay421 (k0_pay401 (k0_pay399 (k0_pay368 q00 q01 k0) b0) s0 v0) (k0_pay402 (k0_pay399 (k0_pay368 q00 q01 k0) b0) s0 v0) (k0_pay406 (k0_pay371
      (k0_pay370 q00) q01 k1) b1 s1 v0) (k0_pay407 (k0_pay371 (k0_pay370 q00) q01 k1) b1 s1 v0) (k0_pay416 (k0_pay411 s2) (k0_pay412 (k0_pay380 q10
      q11 k2) b2 s2) (k0_pay413 (k0_pay380 q10 q11 k2) b2 s2 v1) (k0_pay414 (k0_pay380 q10 q11 k2) b2 s2 v1)) (k0_pay417 (k0_pay411 s2) (k0_pay412
      (k0_pay380 q10 q11 k2) b2 s2) (k0_pay413 (k0_pay380 q10 q11 k2) b2 s2 v1) (k0_pay414 (k0_pay380 q10 q11 k2) b2 s2 v1)) (k0_pay419 (k0_pay385 q10
      q11 k3) b3) (k0_pay420 s3) v1
    = rowOf q00 q01 q10 q11 (keys k0) (keys k1) (keys k2) (keys k3) s0 s1 s2 s3 b0 b1 b2 b3 (vals v0) (vals v1) := by
  dsimp only [rowOf, rowTile, outTile, weighted, topRow, sinkRow, biased, scoreTile, leftHalf, rightHalf, keys, keysFirst, keysLast, vals, valsFirst, valsLast,
    k0_pay368, k0_pay370, k0_pay371, k0_pay380, k0_pay385, k0_pay399, k0_pay401, k0_pay402, k0_pay406, k0_pay407, k0_pay411, k0_pay412, k0_pay413,
    k0_pay414, k0_pay416, k0_pay417, k0_pay419, k0_pay420, k0_pay421, k0_pay400, k0_pay405, k0_pay410, k0_pay415]

/-- Turn 16. -/
theorem row16 (k0 k1 k2 k3 : FVec Ideal S1x384x128 .bf16) (v0 v1 : FVec Ideal S80x384 .bf16) :
    k0_pay443 (k0_pay426 (k0_pay390 (k0_pay389 q00 q01) k0) b0 s0 v0) (k0_pay427 (k0_pay390 (k0_pay389 q00 q01) k0) b0 s0 v0) (k0_pay434 (k0_pay430
      s1) (k0_pay431 (k0_pay398 q00 q01 k1) b1 s1) (k0_pay432 (k0_pay398 q00 q01 k1) b1 s1) v0) (k0_pay435 (k0_pay430 s1) (k0_pay431 (k0_pay398 q00
      q01 k1) b1 s1) (k0_pay432 (k0_pay398 q00 q01 k1) b1 s1) v0) (k0_pay439 (k0_pay437 (k0_pay404 (k0_pay403 q10 q11 k2)) b2) s2 v1) (k0_pay440
      (k0_pay437 (k0_pay404 (k0_pay403 q10 q11 k2)) b2) s2 v1) (k0_pay409 (k0_pay408 q10) q11 k3) b3 s3 v1
    = rowOf q00 q01 q10 q11 (keys k0) (keys k1) (keys k2) (keys k3) s0 s1 s2 s3 b0 b1 b2 b3 (vals v0) (vals v1) := by
  dsimp only [rowOf, rowTile, outTile, weighted, topRow, sinkRow, biased, scoreTile, leftHalf, rightHalf, keys, keysFirst, keysLast, vals, valsFirst, valsLast,
    k0_pay389, k0_pay390, k0_pay398, k0_pay403, k0_pay404, k0_pay408, k0_pay409, k0_pay426, k0_pay427, k0_pay430, k0_pay431, k0_pay432, k0_pay434,
    k0_pay435, k0_pay437, k0_pay439, k0_pay440, k0_pay443, k0_pay425, k0_pay429, k0_pay433, k0_pay438]

/-- Turn 17. -/
theorem row17 (k0 k1 k2 k3 : FVec Ideal S1x384x128 .bf16) (v0 v1 : FVec Ideal S80x384 .bf16) :
    k0_pay471 (k0_pay450 (k0_pay446 s0) (k0_pay447 (k0_pay418 q00 q01 k0) b0 s0) (k0_pay448 (k0_pay418 q00 q01 k0) b0 s0) v0) (k0_pay451 (k0_pay446
      s0) (k0_pay447 (k0_pay418 q00 q01 k0) b0 s0) (k0_pay448 (k0_pay418 q00 q01 k0) b0 s0) v0) (k0_pay457 (k0_pay453 (k0_pay424 (k0_pay422 q00 q01)
      (k0_pay423 k1) (constant S384x256 .f32 0x00000000#32))) (k0_pay454 b1) k0_pay455 s1 v0) (k0_pay458 (k0_pay453 (k0_pay424 (k0_pay422 q00 q01)
      (k0_pay423 k1) (constant S384x256 .f32 0x00000000#32))) (k0_pay454 b1) k0_pay455 s1 v0) (k0_pay462 (k0_pay428 q10 q11 k2) b2 s2 v1) (k0_pay463
      (k0_pay428 q10 q11 k2) b2 s2 v1) (k0_pay467 s3) (k0_pay468 (k0_pay436 q10 q11 k3) b3 s3) (k0_pay469 (k0_pay436 q10 q11 k3) b3 s3) (k0_pay470 v1)
      (constant S80x256 .f32 0x00000000#32)
    = rowOf q00 q01 q10 q11 (keys k0) (keys k1) (keys k2) (keys k3) s0 s1 s2 s3 b0 b1 b2 b3 (vals v0) (vals v1) := by
  dsimp only [rowOf, rowTile, outTile, weighted, topRow, sinkRow, biased, scoreTile, leftHalf, rightHalf, keys, keysFirst, keysLast, vals, valsFirst, valsLast,
    k0_pay418, k0_pay422, k0_pay423, k0_pay424, k0_pay428, k0_pay436, k0_pay446, k0_pay447, k0_pay448, k0_pay450, k0_pay451, k0_pay453, k0_pay454,
    k0_pay455, k0_pay457, k0_pay458, k0_pay462, k0_pay463, k0_pay467, k0_pay468, k0_pay469, k0_pay470, k0_pay471, k0_pay445, k0_pay449, k0_pay456,
    k0_pay461, k0_pay466]

/-- Turn 18. -/
theorem row18 (k0 k1 k2 k3 : FVec Ideal S1x384x128 .bf16) (v0 v1 : FVec Ideal S80x384 .bf16) :
    k0_pay492 (k0_pay475 (k0_pay473 (k0_pay442 (k0_pay441 q00 q01 k0))) b0 s0 v0) (k0_pay476 (k0_pay473 (k0_pay442 (k0_pay441 q00 q01 k0))) b0 s0 v0)
      (k0_pay480 (k0_pay444 q00 q01 k1) b1 s1 v0) (k0_pay481 (k0_pay444 q00 q01 k1) b1 s1 v0) (k0_pay488 (k0_pay484 s2) (k0_pay485 (k0_pay452 q10 q11
      k2) b2 s2) (k0_pay486 (k0_pay452 q10 q11 k2) b2 s2) v1) (k0_pay489 (k0_pay484 s2) (k0_pay485 (k0_pay452 q10 q11 k2) b2 s2) (k0_pay486 (k0_pay452
      q10 q11 k2) b2 s2) v1) (k0_pay491 (k0_pay460 (k0_pay459 q10 q11 k3)) b3) s3 v1
    = rowOf q00 q01 q10 q11 (keys k0) (keys k1) (keys k2) (keys k3) s0 s1 s2 s3 b0 b1 b2 b3 (vals v0) (vals v1) := by
  dsimp only [rowOf, rowTile, outTile, weighted, topRow, sinkRow, biased, scoreTile, leftHalf, rightHalf, keys, keysFirst, keysLast, vals, valsFirst, valsLast,
    k0_pay441, k0_pay442, k0_pay444, k0_pay452, k0_pay459, k0_pay460, k0_pay473, k0_pay475, k0_pay476, k0_pay480, k0_pay481, k0_pay484, k0_pay485,
    k0_pay486, k0_pay488, k0_pay489, k0_pay491, k0_pay492, k0_pay474, k0_pay479, k0_pay483, k0_pay487]

/-- Turn 19. -/
theorem row19 (k0 k1 k2 k3 : FVec Ideal S1x384x128 .bf16) (v0 v1 : FVec Ideal S80x384 .bf16) :
    k0_pay522 (k0_pay521 (k0_pay502 (k0_pay499 (k0_pay465 (k0_pay464 q00) q01 k0) b0 s0 v0) (k0_pay500 (k0_pay465 (k0_pay464 q00) q01 k0) b0 s0 v0))
      (k0_pay503 (k0_pay499 (k0_pay465 (k0_pay464 q00) q01 k0) b0 s0 v0) (k0_pay500 (k0_pay465 (k0_pay464 q00) q01 k0) b0 s0 v0)) (k0_pay510
      (k0_pay505 (k0_pay472 q00 q01 k1) b1) (k0_pay506 s1) (k0_pay507 (k0_pay472 q00 q01 k1) b1 s1) (k0_pay508 (k0_pay472 q00 q01 k1) b1 s1) v0)
      (k0_pay511 (k0_pay505 (k0_pay472 q00 q01 k1) b1) (k0_pay506 s1) (k0_pay507 (k0_pay472 q00 q01 k1) b1 s1) (k0_pay508 (k0_pay472 q00 q01 k1) b1
      s1) v0) (k0_pay516 (k0_pay513 (k0_pay478 (k0_pay477 q10 q11) k2)) (k0_pay514 b2) s2 v1) (k0_pay517 (k0_pay513 (k0_pay478 (k0_pay477 q10 q11)
      k2)) (k0_pay514 b2) s2 v1) (k0_pay482 q10 q11 k3) b3 s3 v1)
    = rowOf q00 q01 q10 q11 (keys k0) (keys k1) (keys k2) (keys k3) s0 s1 s2 s3 b0 b1 b2 b3 (vals v0) (vals v1) := by
  dsimp only [rowOf, rowTile, outTile, weighted, topRow, sinkRow, biased, scoreTile, leftHalf, rightHalf, keys, keysFirst, keysLast, vals, valsFirst, valsLast,
    k0_pay464, k0_pay465, k0_pay472, k0_pay477, k0_pay478, k0_pay482, k0_pay499, k0_pay500, k0_pay502, k0_pay503, k0_pay505, k0_pay506, k0_pay507,
    k0_pay508, k0_pay510, k0_pay511, k0_pay513, k0_pay514, k0_pay516, k0_pay517, k0_pay521, k0_pay522, k0_pay498, k0_pay496, k0_pay497, k0_pay501,
    k0_pay509, k0_pay515, k0_pay495]

/-- Turn 20. -/
theorem row20 (k0 k1 k2 k3 : FVec Ideal S1x384x128 .bf16) (v0 v1 : FVec Ideal S80x384 .bf16) :
    k0_pay544 (k0_pay527 (k0_pay524 (k0_pay490 q00 q01 k0) b0) (k0_pay525 s0) v0) (k0_pay528 (k0_pay524 (k0_pay490 q00 q01 k0) b0) (k0_pay525 s0) v0)
      (k0_pay532 (k0_pay530 (k0_pay494 (k0_pay493 q00 q01) k1)) b1 s1 v0) (k0_pay533 (k0_pay530 (k0_pay494 (k0_pay493 q00 q01) k1)) b1 s1 v0)
      (k0_pay537 (k0_pay504 q10 q11 k2) b2 s2 v1) (k0_pay538 (k0_pay536 (k0_pay504 q10 q11 k2) b2 s2 v1)) (k0_pay541 s3) (k0_pay542 (k0_pay512 q10 q11
      k3) b3 s3) (k0_pay543 (k0_pay512 q10 q11 k3) b3 s3) v1
    = rowOf q00 q01 q10 q11 (keys k0) (keys k1) (keys k2) (keys k3) s0 s1 s2 s3 b0 b1 b2 b3 (vals v0) (vals v1) := by
  dsimp only [rowOf, rowTile, outTile, weighted, topRow, sinkRow, biased, scoreTile, leftHalf, rightHalf, keys, keysFirst, keysLast, vals, valsFirst, valsLast,
    k0_pay490, k0_pay493, k0_pay494, k0_pay504, k0_pay512, k0_pay524, k0_pay525, k0_pay527, k0_pay528, k0_pay530, k0_pay532, k0_pay533, k0_pay536,
    k0_pay537, k0_pay538, k0_pay541, k0_pay542, k0_pay543, k0_pay544, k0_pay526, k0_pay531, k0_pay540]

/-- Turn 21. -/
theorem row21 (k0 k1 k2 k3 : FVec Ideal S1x384x128 .bf16) (v0 v1 : FVec Ideal S80x384 .bf16) :
    k0_pay571 (k0_pay547 (k0_pay520 (k0_pay518 q00 q01) (k0_pay519 k0) (constant S384x256 .f32 0x00000000#32)) b0 s0 v0) (k0_pay548 (k0_pay520
      (k0_pay518 q00 q01) (k0_pay519 k0) (constant S384x256 .f32 0x00000000#32)) b0 s0 v0) (k0_pay560 (k0_pay556 (k0_pay523 q00 q01 k1) b1 s1 v0)
      (k0_pay557 (k0_pay523 q00 q01 k1) b1 s1 v0) k0_pay558) (k0_pay561 (k0_pay556 (k0_pay523 q00 q01 k1) b1 s1 v0) (k0_pay557 (k0_pay523 q00 q01 k1)
      b1 s1 v0) k0_pay558) (k0_pay567 (k0_pay563 (k0_pay529 q10 q11 k2) b2) (k0_pay564 s2) (k0_pay565 (k0_pay529 q10 q11 k2) b2) v1) (k0_pay568
      (k0_pay563 (k0_pay529 q10 q11 k2) b2) (k0_pay564 s2) (k0_pay565 (k0_pay529 q10 q11 k2) b2) v1) (k0_pay570 (k0_pay535 (k0_pay534 q10 q11) k3)) b3
      s3 v1
    = rowOf q00 q01 q10 q11 (keys k0) (keys k1) (keys k2) (keys k3) s0 s1 s2 s3 b0 b1 b2 b3 (vals v0) (vals v1) := by
  dsimp only [rowOf, rowTile, outTile, weighted, topRow, sinkRow, biased, scoreTile, leftHalf, rightHalf, keys, keysFirst, keysLast, vals, valsFirst, valsLast,
    k0_pay518, k0_pay519, k0_pay520, k0_pay523, k0_pay529, k0_pay534, k0_pay535, k0_pay547, k0_pay548, k0_pay556, k0_pay557, k0_pay558, k0_pay560,
    k0_pay561, k0_pay563, k0_pay564, k0_pay565, k0_pay567, k0_pay568, k0_pay570, k0_pay571, k0_pay546, k0_pay555, k0_pay553, k0_pay554, k0_pay559,
    k0_pay566, k0_pay552]

/-- Turn 22. -/
theorem row22 (k0 k1 k2 k3 : FVec Ideal S1x384x128 .bf16) (v0 v1 : FVec Ideal S80x384 .bf16) :
    k0_pay602 (k0_pay581 (k0_pay577 (k0_pay539 q00 q01 k0) b0 s0 v0) (k0_pay578 (k0_pay539 q00 q01 k0) b0 s0 v0) (k0_pay579 (k0_pay539 q00 q01 k0) b0
      s0)) (k0_pay582 (k0_pay577 (k0_pay539 q00 q01 k0) b0 s0 v0) (k0_pay578 (k0_pay539 q00 q01 k0) b0 s0 v0) (k0_pay579 (k0_pay539 q00 q01 k0) b0
      s0)) (k0_pay588 (k0_pay584 (k0_pay545 q00 q01 k1) b1) (k0_pay585 s1) k0_pay586 v0) (k0_pay589 (k0_pay584 (k0_pay545 q00 q01 k1) b1) (k0_pay585
      s1) k0_pay586 v0) (k0_pay592 (k0_pay551 (k0_pay549 q10 q11) k0_pay550 k2) b2 s2 v1) (k0_pay593 (k0_pay551 (k0_pay549 q10 q11) k0_pay550 k2) b2
      s2 v1) (k0_pay600 (k0_pay562 q10 q11 k3) b3 s3 v1) (k0_pay601 (k0_pay562 q10 q11 k3) b3 s3 v1)
    = rowOf q00 q01 q10 q11 (keys k0) (keys k1) (keys k2) (keys k3) s0 s1 s2 s3 b0 b1 b2 b3 (vals v0) (vals v1) := by
  dsimp only [rowOf, rowTile, outTile, weighted, topRow, sinkRow, biased, scoreTile, leftHalf, rightHalf, keys, keysFirst, keysLast, vals, valsFirst, valsLast,
    k0_pay539, k0_pay545, k0_pay549, k0_pay550, k0_pay551, k0_pay562, k0_pay577, k0_pay578, k0_pay579, k0_pay581, k0_pay582, k0_pay584, k0_pay585,
    k0_pay586, k0_pay588, k0_pay589, k0_pay592, k0_pay593, k0_pay600, k0_pay601, k0_pay602, k0_pay576, k0_pay574, k0_pay575, k0_pay580, k0_pay587,
    k0_pay591, k0_pay599, k0_pay597, k0_pay598, k0_pay596]

/-- Turn 23. -/
theorem row23 (k0 k1 k2 k3 : FVec Ideal S1x384x128 .bf16) (v0 v1 : FVec Ideal S80x384 .bf16) :
    k0_pay626 (k0_pay606 (k0_pay604 (k0_pay569 q00 q01 k0) b0) s0 v0) (k0_pay607 (k0_pay604 (k0_pay569 q00 q01 k0) b0) s0 v0) (k0_pay610 (k0_pay573
      (k0_pay572 q00) q01 k1) b1 s1 v0) (k0_pay611 (k0_pay573 (k0_pay572 q00) q01 k1) b1 s1 v0) (k0_pay621 (k0_pay618 (k0_pay583 q10 q11 k2) b2 s2 v1)
      (k0_pay619 (k0_pay583 q10 q11 k2) b2 s2 v1)) (k0_pay622 (k0_pay618 (k0_pay583 q10 q11 k2) b2 s2 v1) (k0_pay619 (k0_pay583 q10 q11 k2) b2 s2 v1))
      (k0_pay624 (k0_pay590 q10 q11 k3) b3) (k0_pay625 s3) v1
    = rowOf q00 q01 q10 q11 (keys k0) (keys k1) (keys k2) (keys k3) s0 s1 s2 s3 b0 b1 b2 b3 (vals v0) (vals v1) := by
  dsimp only [rowOf, rowTile, outTile, weighted, topRow, sinkRow, biased, scoreTile, leftHalf, rightHalf, keys, keysFirst, keysLast, vals, valsFirst, valsLast,
    k0_pay569, k0_pay572, k0_pay573, k0_pay583, k0_pay590, k0_pay604, k0_pay606, k0_pay607, k0_pay610, k0_pay611, k0_pay618, k0_pay619, k0_pay621,
    k0_pay622, k0_pay624, k0_pay625, k0_pay626, k0_pay605, k0_pay609, k0_pay617, k0_pay615, k0_pay616, k0_pay620, k0_pay614]

/-- Turn 24. -/
theorem row24 (k0 k1 k2 k3 : FVec Ideal S1x384x128 .bf16) (v0 v1 : FVec Ideal S80x384 .bf16) :
    k0_pay649 (k0_pay630 (k0_pay595 (k0_pay594 q00 q01) k0) b0 s0 v0) (k0_pay631 (k0_pay595 (k0_pay594 q00 q01) k0) b0 s0 v0) (k0_pay640 (k0_pay635
      s1) (k0_pay636 (k0_pay603 q00 q01 k1) b1 s1) (k0_pay637 (k0_pay603 q00 q01 k1) b1 s1 v0) (k0_pay638 (k0_pay603 q00 q01 k1) b1 s1 v0)) (k0_pay641
      (k0_pay635 s1) (k0_pay636 (k0_pay603 q00 q01 k1) b1 s1) (k0_pay637 (k0_pay603 q00 q01 k1) b1 s1 v0) (k0_pay638 (k0_pay603 q00 q01 k1) b1 s1 v0))
      (k0_pay646 (k0_pay643 (k0_pay608 q10 q11 k2) b2) (k0_pay644 s2) v1) (k0_pay647 (k0_pay643 (k0_pay608 q10 q11 k2) b2) (k0_pay644 s2) v1)
      (k0_pay613 (k0_pay612 q10 q11) k3) b3 s3 v1
    = rowOf q00 q01 q10 q11 (keys k0) (keys k1) (keys k2) (keys k3) s0 s1 s2 s3 b0 b1 b2 b3 (vals v0) (vals v1) := by
  dsimp only [rowOf, rowTile, outTile, weighted, topRow, sinkRow, biased, scoreTile, leftHalf, rightHalf, keys, keysFirst, keysLast, vals, valsFirst, valsLast,
    k0_pay594, k0_pay595, k0_pay603, k0_pay608, k0_pay612, k0_pay613, k0_pay630, k0_pay631, k0_pay635, k0_pay636, k0_pay637, k0_pay638, k0_pay640,
    k0_pay641, k0_pay643, k0_pay644, k0_pay646, k0_pay647, k0_pay649, k0_pay629, k0_pay634, k0_pay639, k0_pay645]

/-- Turn 25. -/
theorem row25 (k0 k1 k2 k3 : FVec Ideal S1x384x128 .bf16) (v0 v1 : FVec Ideal S80x384 .bf16) :
    k0_pay676 (k0_pay656 (k0_pay652 s0) (k0_pay653 (k0_pay623 q00 q01 k0) b0 s0) (k0_pay654 (k0_pay623 q00 q01 k0) b0 s0) v0) (k0_pay657 (k0_pay652
      s0) (k0_pay653 (k0_pay623 q00 q01 k0) b0 s0) (k0_pay654 (k0_pay623 q00 q01 k0) b0 s0) v0) (k0_pay661 (k0_pay659 (k0_pay628 (k0_pay627 q00 q01
      k1)) b1) s1 v0) (k0_pay662 (k0_pay659 (k0_pay628 (k0_pay627 q00 q01 k1)) b1) s1 v0) (k0_pay666 (k0_pay633 (k0_pay632 q10) q11 k2) b2 s2 v1)
      (k0_pay667 (k0_pay633 (k0_pay632 q10) q11 k2) b2 s2 v1) (k0_pay673 (k0_pay642 q10 q11 k3) b3 s3 v1) (k0_pay674 (k0_pay642 q10 q11 k3) b3 s3 v1)
      (k0_pay675 (k0_pay642 q10 q11 k3) b3 s3)
    = rowOf q00 q01 q10 q11 (keys k0) (keys k1) (keys k2) (keys k3) s0 s1 s2 s3 b0 b1 b2 b3 (vals v0) (vals v1) := by
  dsimp only [rowOf, rowTile, outTile, weighted, topRow, sinkRow, biased, scoreTile, leftHalf, rightHalf, keys, keysFirst, keysLast, vals, valsFirst, valsLast,
    k0_pay623, k0_pay627, k0_pay628, k0_pay632, k0_pay633, k0_pay642, k0_pay652, k0_pay653, k0_pay654, k0_pay656, k0_pay657, k0_pay659, k0_pay661,
    k0_pay662, k0_pay666, k0_pay667, k0_pay673, k0_pay674, k0_pay675, k0_pay676, k0_pay651, k0_pay655, k0_pay660, k0_pay665, k0_pay672, k0_pay670,
    k0_pay671]

/-- Turn 26. -/
theorem row26 (k0 k1 k2 k3 : FVec Ideal S1x384x128 .bf16) (v0 v1 : FVec Ideal S80x384 .bf16) :
    k0_pay701 (k0_pay682 (k0_pay678 (k0_pay648 q00 q01 k0)) (k0_pay679 b0) k0_pay680 s0 v0) (k0_pay683 (k0_pay678 (k0_pay648 q00 q01 k0)) (k0_pay679
      b0) k0_pay680 s0 v0) (k0_pay687 (k0_pay650 q00 q01 k1) b1 s1 v0) (k0_pay688 (k0_pay650 q00 q01 k1) b1 s1 v0) (k0_pay697 (k0_pay692 s2)
      (k0_pay693 (k0_pay658 q10 q11 k2) b2 s2) (k0_pay694 (k0_pay658 q10 q11 k2) b2 s2) (k0_pay695 v1) (constant S80x256 .f32 0x00000000#32))
      (k0_pay698 (k0_pay692 s2) (k0_pay693 (k0_pay658 q10 q11 k2) b2 s2) (k0_pay694 (k0_pay658 q10 q11 k2) b2 s2) (k0_pay695 v1) (constant S80x256
      .f32 0x00000000#32)) (k0_pay700 (k0_pay664 (k0_pay663 q10 q11 k3)) b3) s3 v1
    = rowOf q00 q01 q10 q11 (keys k0) (keys k1) (keys k2) (keys k3) s0 s1 s2 s3 b0 b1 b2 b3 (vals v0) (vals v1) := by
  dsimp only [rowOf, rowTile, outTile, weighted, topRow, sinkRow, biased, scoreTile, leftHalf, rightHalf, keys, keysFirst, keysLast, vals, valsFirst, valsLast,
    k0_pay648, k0_pay650, k0_pay658, k0_pay663, k0_pay664, k0_pay678, k0_pay679, k0_pay680, k0_pay682, k0_pay683, k0_pay687, k0_pay688, k0_pay692,
    k0_pay693, k0_pay694, k0_pay695, k0_pay697, k0_pay698, k0_pay700, k0_pay701, k0_pay681, k0_pay686, k0_pay691, k0_pay696]

/-- Turn 27. -/
theorem row27 (k0 k1 k2 k3 : FVec Ideal S1x384x128 .bf16) (v0 v1 : FVec Ideal S80x384 .bf16) :
    k0_pay723 (k0_pay722 (k0_pay705 (k0_pay669 (k0_pay668 q00) q01 k0) b0 s0 v0) (k0_pay706 (k0_pay669 (k0_pay668 q00) q01 k0) b0 s0 v0) (k0_pay713
      (k0_pay709 s1) (k0_pay710 (k0_pay677 q00 q01 k1) b1 s1) (k0_pay711 (k0_pay677 q00 q01 k1) b1 s1) v0) (k0_pay714 (k0_pay709 s1) (k0_pay710
      (k0_pay677 q00 q01 k1) b1 s1) (k0_pay711 (k0_pay677 q00 q01 k1) b1 s1) v0) (k0_pay718 (k0_pay716 (k0_pay685 (k0_pay684 q10 q11 k2)) b2) s2 v1)
      (k0_pay719 (k0_pay716 (k0_pay685 (k0_pay684 q10 q11 k2)) b2) s2 v1) (k0_pay690 (k0_pay689 q10) q11 k3) b3 s3 v1)
    = rowOf q00 q01 q10 q11 (keys k0) (keys k1) (keys k2) (keys k3) s0 s1 s2 s3 b0 b1 b2 b3 (vals v0) (vals v1) := by
  dsimp only [rowOf, rowTile, outTile, weighted, topRow, sinkRow, biased, scoreTile, leftHalf, rightHalf, keys, keysFirst, keysLast, vals, valsFirst, valsLast,
    k0_pay668, k0_pay669, k0_pay677, k0_pay684, k0_pay685, k0_pay689, k0_pay690, k0_pay705, k0_pay706, k0_pay709, k0_pay710, k0_pay711, k0_pay713,
    k0_pay714, k0_pay716, k0_pay718, k0_pay719, k0_pay722, k0_pay723, k0_pay704, k0_pay708, k0_pay712, k0_pay717]

/-- Turn 28. -/
theorem row28 (k0 k1 k2 k3 : FVec Ideal S1x384x128 .bf16) (v0 v1 : FVec Ideal S80x384 .bf16) :
    k0_pay749 (k0_pay730 (k0_pay725 (k0_pay699 q00 q01 k0) b0) (k0_pay726 s0) (k0_pay727 (k0_pay699 q00 q01 k0) b0 s0) (k0_pay728 (k0_pay699 q00 q01
      k0) b0 s0) v0) (k0_pay731 (k0_pay725 (k0_pay699 q00 q01 k0) b0) (k0_pay726 s0) (k0_pay727 (k0_pay699 q00 q01 k0) b0 s0) (k0_pay728 (k0_pay699
      q00 q01 k0) b0 s0) v0) (k0_pay736 (k0_pay733 (k0_pay703 (k0_pay702 q00 q01) k1)) (k0_pay734 b1) s1 v0) (k0_pay737 (k0_pay733 (k0_pay703
      (k0_pay702 q00 q01) k1)) (k0_pay734 b1) s1 v0) (k0_pay742 (k0_pay707 q10 q11 k2) b2 s2 v1) (k0_pay743 (k0_pay707 q10 q11 k2) b2 s2 v1)
      (k0_pay746 s3) (k0_pay747 (k0_pay715 q10 q11 k3) b3 s3) (k0_pay748 (k0_pay715 q10 q11 k3) b3 s3) v1
    = rowOf q00 q01 q10 q11 (keys k0) (keys k1) (keys k2) (keys k3) s0 s1 s2 s3 b0 b1 b2 b3 (vals v0) (vals v1) := by
  dsimp only [rowOf, rowTile, outTile, weighted, topRow, sinkRow, biased, scoreTile, leftHalf, rightHalf, keys, keysFirst, keysLast, vals, valsFirst, valsLast,
    k0_pay699, k0_pay702, k0_pay703, k0_pay707, k0_pay715, k0_pay725, k0_pay726, k0_pay727, k0_pay728, k0_pay730, k0_pay731, k0_pay733, k0_pay734,
    k0_pay736, k0_pay737, k0_pay742, k0_pay743, k0_pay746, k0_pay747, k0_pay748, k0_pay749, k0_pay729, k0_pay735, k0_pay741, k0_pay745]

/-- Turn 29. -/
theorem row29 (k0 k1 k2 k3 : FVec Ideal S1x384x128 .bf16) (v0 v1 : FVec Ideal S80x384 .bf16) :
    k0_pay770 (k0_pay753 (k0_pay751 (k0_pay721 (k0_pay720 q00 q01 k0))) b0 s0 v0) (k0_pay754 (k0_pay751 (k0_pay721 (k0_pay720 q00 q01 k0))) b0 s0 v0)
      (k0_pay758 (k0_pay724 q00 q01 k1) b1 s1 v0) (k0_pay759 (k0_pay757 (k0_pay724 q00 q01 k1) b1 s1 v0)) (k0_pay766 (k0_pay762 s2) (k0_pay763
      (k0_pay732 q10 q11 k2) b2 s2) (k0_pay764 (k0_pay732 q10 q11 k2) b2 s2) v1) (k0_pay767 (k0_pay762 s2) (k0_pay763 (k0_pay732 q10 q11 k2) b2 s2)
      (k0_pay764 (k0_pay732 q10 q11 k2) b2 s2) v1) (k0_pay769 (k0_pay740 (k0_pay738 q10 q11) (k0_pay739 k3) (constant S384x256 .f32 0x00000000#32)))
      b3 s3 v1
    = rowOf q00 q01 q10 q11 (keys k0) (keys k1) (keys k2) (keys k3) s0 s1 s2 s3 b0 b1 b2 b3 (vals v0) (vals v1) := by
  dsimp only [rowOf, rowTile, outTile, weighted, topRow, sinkRow, biased, scoreTile, leftHalf, rightHalf, keys, keysFirst, keysLast, vals, valsFirst, valsLast,
    k0_pay720, k0_pay721, k0_pay724, k0_pay732, k0_pay738, k0_pay739, k0_pay740, k0_pay751, k0_pay753, k0_pay754, k0_pay757, k0_pay758, k0_pay759,
    k0_pay762, k0_pay763, k0_pay764, k0_pay766, k0_pay767, k0_pay769, k0_pay770, k0_pay752, k0_pay761, k0_pay765]

/-- Turn 30. -/
theorem row30 (k0 k1 k2 k3 : FVec Ideal S1x384x128 .bf16) (v0 v1 : FVec Ideal S80x384 .bf16) :
    k0_pay795 (k0_pay794 (k0_pay778 (k0_pay774 s0) (k0_pay775 (k0_pay744 q00 q01 k0) b0 s0) (k0_pay776 (k0_pay744 q00 q01 k0) b0 s0) v0) (k0_pay779
      (k0_pay774 s0) (k0_pay775 (k0_pay744 q00 q01 k0) b0 s0) (k0_pay776 (k0_pay744 q00 q01 k0) b0 s0) v0) (k0_pay783 (k0_pay781 (k0_pay750 q00 q01
      k1)) b1 s1 v0) (k0_pay784 (k0_pay781 (k0_pay750 q00 q01 k1)) b1 s1 v0) (k0_pay791 (k0_pay756 (k0_pay755 q10 q11) k2) b2 s2 v1) (k0_pay792
      (k0_pay756 (k0_pay755 q10 q11) k2) b2 s2 v1) k0_pay793 (k0_pay760 q10 q11 k3) b3 s3 v1)
    = rowOf q00 q01 q10 q11 (keys k0) (keys k1) (keys k2) (keys k3) s0 s1 s2 s3 b0 b1 b2 b3 (vals v0) (vals v1) := by
  dsimp only [rowOf, rowTile, outTile, weighted, topRow, sinkRow, biased, scoreTile, leftHalf, rightHalf, keys, keysFirst, keysLast, vals, valsFirst, valsLast,
    k0_pay744, k0_pay750, k0_pay755, k0_pay756, k0_pay760, k0_pay774, k0_pay775, k0_pay776, k0_pay778, k0_pay779, k0_pay781, k0_pay783, k0_pay784,
    k0_pay791, k0_pay792, k0_pay793, k0_pay794, k0_pay795, k0_pay773, k0_pay777, k0_pay782, k0_pay790, k0_pay788, k0_pay789, k0_pay787]

/-- Turn 31. -/
theorem row31 (k0 k1 k2 k3 : FVec Ideal S1x256x128 .bf16) (e0 e1 e2 e3 : FVec Ideal S1x128x128 .bf16) (v0 v1 : FVec Ideal S80x256 .bf16) (w0 w1 : FVec Ideal S80x128 .bf16) :
    k0_pay1 (k0_pay802 (k0_pay797 s0) (k0_pay798 (k0_pay768 q00 q01 k0 e0) b0 s0) (k0_pay799 (k0_pay768 q00 q01 k0 e0) b0 s0 v0 w0) (k0_pay800
      (k0_pay768 q00 q01 k0 e0) b0 s0 v0 w0)) (k0_pay803 (k0_pay797 s0) (k0_pay798 (k0_pay768 q00 q01 k0 e0) b0 s0) (k0_pay799 (k0_pay768 q00 q01 k0
      e0) b0 s0 v0 w0) (k0_pay800 (k0_pay768 q00 q01 k0 e0) b0 s0 v0 w0)) (k0_pay810 (k0_pay805 s1) (k0_pay806 (k0_pay772 (k0_pay771 q00) q01 k1 e1)
      b1 s1) (k0_pay807 (k0_pay772 (k0_pay771 q00) q01 k1 e1) b1 s1) (k0_pay808 v0) w0) (k0_pay811 (k0_pay805 s1) (k0_pay806 (k0_pay772 (k0_pay771
      q00) q01 k1 e1) b1 s1) (k0_pay807 (k0_pay772 (k0_pay771 q00) q01 k1 e1) b1 s1) (k0_pay808 v0) w0) (k0_pay817 (k0_pay813 s2) (k0_pay814
      (k0_pay780 q10 q11 k2 e2) b2 s2) (k0_pay815 (k0_pay780 q10 q11 k2 e2) b2 s2) v1 w1) (k0_pay818 (k0_pay813 s2) (k0_pay814 (k0_pay780 q10 q11 k2
      e2) b2 s2) (k0_pay815 (k0_pay780 q10 q11 k2 e2) b2 s2) v1 w1) (k0_pay819 (k0_pay786 (k0_pay785 q10 q11) k3 e3) b3) (k0_pay822 (k0_pay820 s3)
      k0_pay821) (k0_pay823 (k0_pay819 (k0_pay786 (k0_pay785 q10 q11) k3 e3) b3) (k0_pay820 s3) k0_pay821) (k0_pay824 (k0_pay819 (k0_pay786 (k0_pay785
      q10 q11) k3 e3) b3) (k0_pay820 s3) k0_pay821) v1 w1
    = rowOf q00 q01 q10 q11 (keysLast k0 e0) (keysLast k1 e1) (keysLast k2 e2) (keysLast k3 e3) s0 s1 s2 s3 b0 b1 b2 b3 (valsLast v0 w0) (valsLast v1 w1) := by
  dsimp only [rowOf, rowTile, outTile, weighted, topRow, sinkRow, biased, scoreTile, leftHalf, rightHalf, keys, keysFirst, keysLast, vals, valsFirst, valsLast,
    k0_pay1, k0_pay768, k0_pay771, k0_pay772, k0_pay780, k0_pay785, k0_pay786, k0_pay797, k0_pay798, k0_pay799, k0_pay800, k0_pay802, k0_pay803,
    k0_pay805, k0_pay806, k0_pay807, k0_pay808, k0_pay810, k0_pay811, k0_pay813, k0_pay814, k0_pay815, k0_pay817, k0_pay818, k0_pay819, k0_pay820,
    k0_pay821, k0_pay822, k0_pay823, k0_pay824, k0_pay796, k0_pay801, k0_pay804, k0_pay809, k0_pay812, k0_pay816]

end Cert.KernelIdeal.Value
end
-- ==== Proof.AttnTurn.lean ====
module

public import proofs.«01_k».proof.Proof.AttnLoads
public import proofs.«01_k».proof.Proof.AttnPair
public import proofs.«01_k».proof.Proof.AttnRows

@[expose] public section

set_option maxRecDepth 16384
noncomputable section
open Idealize.ShloMosaic Idealize.ShloMosaic.TcCoe Idealize.SL.Sem

/-! One turn of the attention kernel: the 128 rows it stores are the reference's. -/

namespace Cert.AttnPair
open Cert.KernelIdeal Cert.KernelIdeal.Gen Cert.KernelIdeal.Value
open Cert.ReferenceIdeal.Value (REF)

section
variable (Q : FVec Ideal S8x4096x8x64 .f32) (K V : FVec Ideal S8x4096x2x64 .f32) (S : FVec Ideal S8 .f32)
variable (hQ : ∀ i, Q i = ((Q i).toReal : EReal)) (hK : ∀ i, K i = ((K i).toReal : EReal)) (hS : ∀ i, S i = ((S i).toReal : EReal))

include hQ hK hS in
/-- The stored rows of one turn, from what its loads hold. -/
theorem turn_at (b : Fin 8) (r : Fin 32) (pos : Fin 384 → Fin 4096)
    (hpos : ∀ j : Fin 384, 128 ≤ 128 * r.val + j.val → 128 * r.val + j.val - 128 < 4096 → (pos j).val = 128 * r.val + j.val - 128)
    (q00 q01 q10 q11 : FVec Ideal S1x128x128 .f32) (k0 k1 k2 k3 : FVec Ideal S384x128 .bf16) (s0 s1 s2 s3 : FVec Ideal S1x1x1x256 .f32)
    (b0 b1 b2 b3 : FVec Ideal S1x384x256 .f32) (v0 v1 : FVec Ideal S80x384 .bf16)
    (hq00 : ∀ a x : Fin 128, q00 (ix3 0 a x) = queryTab Q (ix3 b ⟨128 * r.val + a.val, by omega⟩ ⟨0 + x.val, by omega⟩))
    (hq01 : ∀ a x : Fin 128, q01 (ix3 0 a x) = queryTab Q (ix3 b ⟨128 * r.val + a.val, by omega⟩ ⟨128 + x.val, by omega⟩))
    (hq10 : ∀ a x : Fin 128, q10 (ix3 0 a x) = queryTab Q (ix3 b ⟨128 * r.val + a.val, by omega⟩ ⟨256 + x.val, by omega⟩))
    (hq11 : ∀ a x : Fin 128, q11 (ix3 0 a x) = queryTab Q (ix3 b ⟨128 * r.val + a.val, by omega⟩ ⟨384 + x.val, by omega⟩))
    (hk0 : ∀ (j : Fin 384) (x : Fin 128), k0 (ix2 j x) = keyTab K (ix3 b (pos j) ⟨0 + x.val, by omega⟩))
    (hk1 : ∀ (j : Fin 384) (x : Fin 128), k1 (ix2 j x) = keyTab K (ix3 b (pos j) ⟨128 + x.val, by omega⟩))
    (hk2 : ∀ (j : Fin 384) (x : Fin 128), k2 (ix2 j x) = keyTab K (ix3 b (pos j) ⟨256 + x.val, by omega⟩))
    (hk3 : ∀ (j : Fin 384) (x : Fin 128), k3 (ix2 j x) = keyTab K (ix3 b (pos j) ⟨384 + x.val, by omega⟩))
    (hs0 : ∀ u, s0 (ix4 0 0 0 u) = sinkTab S (ix4 0 0 0 u)) (hs1 : ∀ u, s1 (ix4 0 0 0 u) = sinkTab S (ix4 0 1 0 u))
    (hs2 : ∀ u, s2 (ix4 0 0 0 u) = sinkTab S (ix4 0 2 0 u)) (hs3 : ∀ u, s3 (ix4 0 0 0 u) = sinkTab S (ix4 0 3 0 u))
    (hb0 : ∀ j u, b0 (ix3 0 j u) = biasTab (ix3 ⟨4 * (edge r).val + 0, by omega⟩ j u)) (hb1 : ∀ j u, b1 (ix3 0 j u) = biasTab (ix3 ⟨4 * (edge r).val + 1, by omega⟩ j u))
    (hb2 : ∀ j u, b2 (ix3 0 j u) = biasTab (ix3 ⟨4 * (edge r).val + 2, by omega⟩ j u)) (hb3 : ∀ j u, b3 (ix3 0 j u) = biasTab (ix3 ⟨4 * (edge r).val + 3, by omega⟩ j u))
    (hv0 : ∀ (d : Fin 80) (j : Fin 384), v0 (ix2 d j) = valTab V (ix2 ⟨0 + d.val, by omega⟩ ⟨4096 * b.val + (pos j).val, by omega⟩))
    (hv1 : ∀ (d : Fin 80) (j : Fin 384), v1 (ix2 d j) = valTab V (ix2 ⟨80 + d.val, by omega⟩ ⟨4096 * b.val + (pos j).val, by omega⟩))
    (a : Fin 128) (l : Fin 512) :
    rowOf q00 q01 q10 q11 k0 k1 k2 k3 s0 s1 s2 s3 b0 b1 b2 b3 v0 v1 (ix3 0 a l) = REF Q K V S (ix3 b ⟨128 * r.val + a.val, by omega⟩ l) := by
  refine rowTile_eq ![outTile (scoreTile q00 q01 k0) b0 s0 v0, outTile (scoreTile q00 q01 k1) b1 s1 v0, outTile (scoreTile q10 q11 k2) b2 s2 v1, outTile (scoreTile q10 q11 k3) b3 s3 v1]
    (fun a l => REF Q K V S (ix3 b ⟨128 * r.val + a.val, by omega⟩ l)) (fun g half par a d => ?_) a l
  fin_cases g <;> fin_cases par
  · exact pair_at Q K V S hQ hK hS b r pos hpos 0 0 q00 q01 k0 b0 s0 v0 hq00 hq01 hk0 hb0 hs0 hv0 half a d
  · exact pair_at Q K V S hQ hK hS b r pos hpos 0 1 q00 q01 k1 b1 s1 v0 hq00 hq01 hk1 hb1 hs1 hv0 half a d
  · exact pair_at Q K V S hQ hK hS b r pos hpos 1 0 q10 q11 k2 b2 s2 v1 hq10 hq11 hk2 hb2 hs2 hv1 half a d
  · exact pair_at Q K V S hQ hK hS b r pos hpos 1 1 q10 q11 k3 b3 s3 v1 hq10 hq11 hk3 hb3 hs3 hv1 half a d
end

/-- A window of keys as loaded. -/
theorem keys_at (k : FVec Ideal S1x384x128 .bf16) (j : Fin 384) (x : Fin 128) : keys k (ix2 j x) = k (ix3 0 j x) := by
  pointwise [keys]

/-- The first turn's window of keys. -/
theorem keysFirst_at (e : FVec Ideal S1x128x128 .bf16) (k : FVec Ideal S1x256x128 .bf16) (j : Fin 384) (x : Fin 128) :
    keysFirst e k (ix2 j x) = if h : j.val < 128 then e (ix3 0 ⟨j.val, h⟩ x) else k (ix3 0 ⟨j.val - 128, by omega⟩ x) := by
  pointwise [keysFirst]

/-- The last turn's window of keys. -/
theorem keysLast_at (k : FVec Ideal S1x256x128 .bf16) (e : FVec Ideal S1x128x128 .bf16) (j : Fin 384) (x : Fin 128) :
    keysLast k e (ix2 j x) = if h : j.val < 256 then k (ix3 0 ⟨j.val, h⟩ x) else e (ix3 0 ⟨j.val - 256, by omega⟩ x) := by
  pointwise [keysLast]

/-- A window of values as loaded. -/
theorem vals_at (v : FVec Ideal S80x384 .bf16) (d : Fin 80) (j : Fin 384) : vals v (ix2 d j) = v (ix2 d j) := by
  pointwise [vals]

/-- The first turn's window of values. -/
theorem valsFirst_at (w : FVec Ideal S80x128 .bf16) (v : FVec Ideal S80x256 .bf16) (d : Fin 80) (j : Fin 384) :
    valsFirst w v (ix2 d j) = if h : j.val < 128 then w (ix2 d ⟨j.val, h⟩) else v (ix2 d ⟨j.val - 128, by omega⟩) := by
  pointwise [valsFirst]

/-- The last turn's window of values. -/
theorem valsLast_at (v : FVec Ideal S80x256 .bf16) (w : FVec Ideal S80x128 .bf16) (d : Fin 80) (j : Fin 384) :
    valsLast v w (ix2 d j) = if h : j.val < 256 then v (ix2 d ⟨j.val, h⟩) else w (ix2 d ⟨j.val - 256, by omega⟩) := by
  pointwise [valsLast]
end Cert.AttnPair
end
-- ==== Proof.AttnValue.lean ====
module

public import proofs.«01_k».proof.Proof.AttnTurn
public import proofs.«01_k».proof.Proof.Gen.KernelIdeal.Frame
public import Idealize.ShloMosaic.Lib.Pipeline.ValueKit
public import Idealize.ShloMosaic.Lib.Pipeline.ReadBack

@[expose] public section

set_option maxRecDepth 65536
noncomputable section
open Idealize.ShloMosaic Idealize.ShloMosaic.TcCoe Idealize.SL.Sem

/-! A turn of the attention kernel in terms of the arrays its windows hold: where each load lies. Then what the kernel leaves in its output array: the reference's result. -/

namespace Cert.AttnPair
open Cert.KernelIdeal Cert.KernelIdeal.Gen Cert.KernelIdeal.Value
open Cert.ReferenceIdeal.Value (REF)

/-- The reference's result for one batch element. -/
def refAt (Q : FVec Ideal S8x4096x8x64 .f32) (K V : FVec Ideal S8x4096x2x64 .f32) (S : FVec Ideal S8 .f32) (b : Fin 8) : FVec Ideal S1x4096x512 .bf16 :=
  fun z => REF Q K V S (ix3 b (z 1) (z 2))

/-- The first turn sees the keys from the sequence's start. -/
theorem fst {j : Fin 384} (hj : 128 ≤ 128 * ((0 : Fin 32) : ℕ) + j.val) : ¬ j.val < 128 := by
  have h : ((0 : Fin 32) : ℕ) = 0 := rfl
  omega

/-- The last turn sees the keys up to the sequence's end. -/
theorem lst {j : Fin 384} (hj : 128 * ((31 : Fin 32) : ℕ) + j.val - 128 < 4096) : j.val < 256 := by
  have h : ((31 : Fin 32) : ℕ) = 31 := rfl
  omega

/-- Where the first turn's keys lie. -/
theorem fst_pos {j : Fin 384} (hj : 128 ≤ 128 * ((0 : Fin 32) : ℕ) + j.val) :
    (if h : j.val < 128 then (⟨j.val, by omega⟩ : Fin 4096) else ⟨j.val - 128, by omega⟩).val = 128 * ((0 : Fin 32) : ℕ) + j.val - 128 := by
  have h : ((0 : Fin 32) : ℕ) = 0 := rfl
  rw [dif_neg (fst hj)]
  show j.val - 128 = _
  omega

/-- Where the last turn's keys lie. -/
theorem lst_pos {j : Fin 384} (hj : 128 * ((31 : Fin 32) : ℕ) + j.val - 128 < 4096) :
    (if h : j.val < 256 then (⟨3840 + j.val, by omega⟩ : Fin 4096) else ⟨3968 + (j.val - 256), by omega⟩).val = 128 * ((31 : Fin 32) : ℕ) + j.val - 128 := by
  have h : ((31 : Fin 32) : ℕ) = 31 := rfl
  rw [dif_pos (lst hj)]
  show 3840 + j.val = _
  omega

/-- An entry of the bias table by its position. -/
theorem bias_spot {p p' : Fin 12} {j j' : Fin 384} {u u' : Fin 256} (hp : p.val = p'.val) (hj : j.val = j'.val) (hu : u.val = u'.val) :
    biasTab (ix3 p j u) = biasTab (ix3 p' j' u') := by
  rw [Fin.ext hp, Fin.ext hj, Fin.ext hu]

/-- An entry of the query table by its position. -/
theorem query_spot {Q : FVec Ideal S8x4096x8x64 .f32} {b : Fin 8} {s s' : Fin 4096} {l l' : Fin 512} (hs : s.val = s'.val) (hl : l.val = l'.val) :
    queryTab Q (ix3 b s l) = queryTab Q (ix3 b s' l') := by
  rw [Fin.ext hs, Fin.ext hl]

/-- An entry of the reference's result by its position. -/
theorem ref_spot {Q : FVec Ideal S8x4096x8x64 .f32} {K V : FVec Ideal S8x4096x2x64 .f32} {S : FVec Ideal S8 .f32} {b : Fin 8} {s s' : Fin 4096} {l l' : Fin 512} (hs : s.val = s'.val) (hl : l.val = l'.val) :
    REF Q K V S (ix3 b s l) = REF Q K V S (ix3 b s' l') := by
  rw [Fin.ext hs, Fin.ext hl]

/-- An entry of the key table by its position. -/
theorem key_spot {K : FVec Ideal S8x4096x2x64 .f32} {b : Fin 8} {s s' : Fin 4096} {l l' : Fin 512} (hs : s.val = s'.val) (hl : l.val = l'.val) :
    keyTab K (ix3 b s l) = keyTab K (ix3 b s' l') := by
  rw [Fin.ext hs, Fin.ext hl]

/-- An entry of the value table by its position. -/
theorem val_spot {V : FVec Ideal S8x4096x2x64 .f32} {d d' : Fin 160} {s s' : Fin 32768} (hd : d.val = d'.val) (hs : s.val = s'.val) :
    valTab V (ix2 d s) = valTab V (ix2 d' s') := by
  rw [Fin.ext hd, Fin.ext hs]

section
variable (Q : FVec Ideal S8x4096x8x64 .f32) (K V : FVec Ideal S8x4096x2x64 .f32) (S : FVec Ideal S8 .f32)
variable (hQ : ∀ i, Q i = ((Q i).toReal : EReal)) (hK : ∀ i, K i = ((K i).toReal : EReal)) (hS : ∀ i, S i = ((S i).toReal : EReal))
variable (b : Fin 8)
variable (X0 : FVec Ideal S1x4x1x256 .f32) (X1 : FVec Ideal S1x4096x512 .f32) (X2 : FVec Ideal S1x4096x512 .bf16) (X3 X4 : FVec Ideal S1x128x512 .bf16)
variable (X5 : FVec Ideal S160x4096 .bf16) (X6 X7 : FVec Ideal S160x128 .bf16) (X8 : FVec Ideal S12x384x256 .f32)
variable (h0 : ∀ (p : Fin 4) (u : Fin 256), X0 (ix4 0 p 0 u) = sinkTab S (ix4 0 p 0 u))
variable (h1 : ∀ (s : Fin 4096) (l : Fin 512), X1 (ix3 0 s l) = queryTab Q (ix3 b s l))
variable (h2 : ∀ (s : Fin 4096) (l : Fin 512), X2 (ix3 0 s l) = keyTab K (ix3 b s l))
variable (h3 : ∀ (s : Fin 128) (l : Fin 512), X3 (ix3 0 s l) = keyTab K (ix3 b ⟨s.val, by omega⟩ l))
variable (h4 : ∀ (s : Fin 128) (l : Fin 512), X4 (ix3 0 s l) = keyTab K (ix3 b ⟨3968 + s.val, by omega⟩ l))
variable (h5 : ∀ (d : Fin 160) (s : Fin 4096), X5 (ix2 d s) = valTab V (ix2 d ⟨4096 * b.val + s.val, by omega⟩))
variable (h6 : ∀ (d : Fin 160) (s : Fin 128), X6 (ix2 d s) = valTab V (ix2 d ⟨4096 * b.val + s.val, by omega⟩))
variable (h7 : ∀ (d : Fin 160) (s : Fin 128), X7 (ix2 d s) = valTab V (ix2 d ⟨4096 * b.val + (3968 + s.val), by omega⟩))
variable (h8 : ∀ (p : Fin 12) (j : Fin 384) (u : Fin 256), X8 (ix3 p j u) = biasTab (ix3 p j u))

section
include hQ hK hS h0 h1 h2 h5 h8
/-- A turn inside the run: its 384 keys are the block before its own, its own and the one after. -/
theorem mid (r : Fin 32) (o o' : ℕ) (ho : o = 128 * r.val) (ho' : o' + 128 = o) (hr : r.val < 31)
    {iq0} {iq128} {iq256} {iq384} {ik0} {ik128} {ik256} {ik384} {is0} {is1} {is2} {is3} {ib0} {ib1} {ib2} {ib3} {iv0} {iv80} (io)
    (x : S1x128x512.Idx) :
    rowOf (View.ld (Val := Elt Ideal) (e' := .f32) X1 (Rect.unit (s := S1x4096x512) ![0, o, 0] S1x128x128.size iq0)) (View.ld (Val := Elt Ideal) (e' := .f32) X1 (Rect.unit (s := S1x4096x512) ![0, o, 128] S1x128x128.size iq128)) (View.ld (Val := Elt Ideal) (e' := .f32) X1 (Rect.unit (s := S1x4096x512) ![0, o, 256] S1x128x128.size iq256)) (View.ld (Val := Elt Ideal) (e' := .f32) X1 (Rect.unit (s := S1x4096x512) ![0, o, 384] S1x128x128.size iq384))
      (keys (View.ld (Val := Elt Ideal) (e' := .bf16) X2 (Rect.unit (s := S1x4096x512) ![0, o', 0] S1x384x128.size ik0)))
      (keys (View.ld (Val := Elt Ideal) (e' := .bf16) X2 (Rect.unit (s := S1x4096x512) ![0, o', 128] S1x384x128.size ik128)))
      (keys (View.ld (Val := Elt Ideal) (e' := .bf16) X2 (Rect.unit (s := S1x4096x512) ![0, o', 256] S1x384x128.size ik256)))
      (keys (View.ld (Val := Elt Ideal) (e' := .bf16) X2 (Rect.unit (s := S1x4096x512) ![0, o', 384] S1x384x128.size ik384)))
      (View.ld (Val := Elt Ideal) (e' := .f32) X0 (Rect.unit (s := S1x4x1x256) ![0, 0, 0, 0] S1x1x1x256.size is0)) (View.ld (Val := Elt Ideal) (e' := .f32) X0 (Rect.unit (s := S1x4x1x256) ![0, 1, 0, 0] S1x1x1x256.size is1)) (View.ld (Val := Elt Ideal) (e' := .f32) X0 (Rect.unit (s := S1x4x1x256) ![0, 2, 0, 0] S1x1x1x256.size is2)) (View.ld (Val := Elt Ideal) (e' := .f32) X0 (Rect.unit (s := S1x4x1x256) ![0, 3, 0, 0] S1x1x1x256.size is3))
      (View.ld (Val := Elt Ideal) (e' := .f32) X8 (Rect.unit (s := S12x384x256) ![0, 0, 0] S1x384x256.size ib0)) (View.ld (Val := Elt Ideal) (e' := .f32) X8 (Rect.unit (s := S12x384x256) ![1, 0, 0] S1x384x256.size ib1)) (View.ld (Val := Elt Ideal) (e' := .f32) X8 (Rect.unit (s := S12x384x256) ![2, 0, 0] S1x384x256.size ib2)) (View.ld (Val := Elt Ideal) (e' := .f32) X8 (Rect.unit (s := S12x384x256) ![3, 0, 0] S1x384x256.size ib3))
      (vals (View.ld (Val := Elt Ideal) (e' := .bf16) X5 (Rect.unit (s := S160x4096) ![0, o'] S80x384.size iv0)))
      (vals (View.ld (Val := Elt Ideal) (e' := .bf16) X5 (Rect.unit (s := S160x4096) ![80, o'] S80x384.size iv80))) x
    = refAt Q K V S b ((Rect.unit (s := S1x4096x512) ![0, o, 0] S1x128x512.size io).emb x) := by
  have he : (edge r).val = 0 := by unfold edge; split_ifs <;> first | rfl | (exfalso; omega)
  idx_vars x
  obtain rfl : x0 = 0 := Subsingleton.elim _ _
  refine Eq.trans (turn_at Q K V S hQ hK hS b r (fun j => ⟨o' + j.val, by omega⟩) (fun j _ _ => by dsimp only; omega) _ _ _ _ _ _ _ _ _ _ _ _ _ _ _ _ _ _ ?_ ?_ ?_ ?_ ?_ ?_ ?_ ?_ ?_ ?_ ?_ ?_ ?_ ?_ ?_ ?_ ?_ ?_ _ _) ?_
  · intro a x; exact (ld3 (φ := .f32) X1 0 o 0 _ rfl _ a x (by omega) (by omega) (by omega)).trans ((h1 _ _).trans (query_spot (by dsimp only; omega) rfl))
  · intro a x; exact (ld3 (φ := .f32) X1 0 o 128 _ rfl _ a x (by omega) (by omega) (by omega)).trans ((h1 _ _).trans (query_spot (by dsimp only; omega) rfl))
  · intro a x; exact (ld3 (φ := .f32) X1 0 o 256 _ rfl _ a x (by omega) (by omega) (by omega)).trans ((h1 _ _).trans (query_spot (by dsimp only; omega) rfl))
  · intro a x; exact (ld3 (φ := .f32) X1 0 o 384 _ rfl _ a x (by omega) (by omega) (by omega)).trans ((h1 _ _).trans (query_spot (by dsimp only; omega) rfl))
  · intro j x; exact (keys_at _ j x).trans ((ld3 (φ := .bf16) X2 0 o' 0 _ rfl _ j x (by omega) (by omega) (by omega)).trans (h2 _ _))
  · intro j x; exact (keys_at _ j x).trans ((ld3 (φ := .bf16) X2 0 o' 128 _ rfl _ j x (by omega) (by omega) (by omega)).trans (h2 _ _))
  · intro j x; exact (keys_at _ j x).trans ((ld3 (φ := .bf16) X2 0 o' 256 _ rfl _ j x (by omega) (by omega) (by omega)).trans (h2 _ _))
  · intro j x; exact (keys_at _ j x).trans ((ld3 (φ := .bf16) X2 0 o' 384 _ rfl _ j x (by omega) (by omega) (by omega)).trans (h2 _ _))
  · intro u; exact (ld4 (φ := .f32) X0 0 _ u (by omega)).trans (h0 _ _)
  · intro u; exact (ld4 (φ := .f32) X0 1 _ u (by omega)).trans (h0 _ _)
  · intro u; exact (ld4 (φ := .f32) X0 2 _ u (by omega)).trans (h0 _ _)
  · intro u; exact (ld4 (φ := .f32) X0 3 _ u (by omega)).trans (h0 _ _)
  · intro j u; exact (ld3 (φ := .f32) X8 0 0 0 _ rfl _ j u (by omega) (by omega) (by omega)).trans ((h8 _ _ _).trans (bias_spot (by dsimp only; omega) (Nat.zero_add _) (Nat.zero_add _)))
  · intro j u; exact (ld3 (φ := .f32) X8 1 0 0 _ rfl _ j u (by omega) (by omega) (by omega)).trans ((h8 _ _ _).trans (bias_spot (by dsimp only; omega) (Nat.zero_add _) (Nat.zero_add _)))
  · intro j u; exact (ld3 (φ := .f32) X8 2 0 0 _ rfl _ j u (by omega) (by omega) (by omega)).trans ((h8 _ _ _).trans (bias_spot (by dsimp only; omega) (Nat.zero_add _) (Nat.zero_add _)))
  · intro j u; exact (ld3 (φ := .f32) X8 3 0 0 _ rfl _ j u (by omega) (by omega) (by omega)).trans ((h8 _ _ _).trans (bias_spot (by dsimp only; omega) (Nat.zero_add _) (Nat.zero_add _)))
  · intro d j; exact (vals_at _ d j).trans ((ld2 (φ := .bf16) X5 0 o' _ d j (by omega) (by omega)).trans (h5 _ _))
  · intro d j; exact (vals_at _ d j).trans ((ld2 (φ := .bf16) X5 80 o' _ d j (by omega) (by omega)).trans (h5 _ _))
  · refine ref_spot ?_ ?_
    · refine Eq.trans ?_ (Rect.idx_unit_val _ _ io (ix3 0 x1 x2) 1).symm
      show _ = o + x1.val
      dsimp only
      omega
    · exact (Nat.zero_add _).symm.trans (Rect.idx_unit_val _ _ io (ix3 0 x1 x2) 2).symm

end

section
include hQ hK hS h0 h1 h2 h3 h5 h6 h8
/-- The first turn: the block before it comes from a window of its own. -/
theorem first (off : Fin 4 → Fin 3 → ℕ) (hoff : ∀ p, off p = ![4 + p.val, 0, 0])
    {iq0} {iq128} {iq256} {iq384} {ik0} {ik128} {ik256} {ik384} {ie0} {ie128} {ie256} {ie384} {is0} {is1} {is2} {is3} {ib0} {ib1} {ib2} {ib3} {iv0} {iv80} {iw0} {iw80} (io)
    (x : S1x128x512.Idx) :
    rowOf (View.ld (Val := Elt Ideal) (e' := .f32) X1 (Rect.unit (s := S1x4096x512) ![0, 0, 0] S1x128x128.size iq0)) (View.ld (Val := Elt Ideal) (e' := .f32) X1 (Rect.unit (s := S1x4096x512) ![0, 0, 128] S1x128x128.size iq128)) (View.ld (Val := Elt Ideal) (e' := .f32) X1 (Rect.unit (s := S1x4096x512) ![0, 0, 256] S1x128x128.size iq256)) (View.ld (Val := Elt Ideal) (e' := .f32) X1 (Rect.unit (s := S1x4096x512) ![0, 0, 384] S1x128x128.size iq384))
      (keysFirst (View.ld (Val := Elt Ideal) (e' := .bf16) X3 (Rect.unit (s := S1x128x512) ![0, 0, 0] S1x128x128.size ie0)) (View.ld (Val := Elt Ideal) (e' := .bf16) X2 (Rect.unit (s := S1x4096x512) ![0, 0, 0] S1x256x128.size ik0)))
      (keysFirst (View.ld (Val := Elt Ideal) (e' := .bf16) X3 (Rect.unit (s := S1x128x512) ![0, 0, 128] S1x128x128.size ie128)) (View.ld (Val := Elt Ideal) (e' := .bf16) X2 (Rect.unit (s := S1x4096x512) ![0, 0, 128] S1x256x128.size ik128)))
      (keysFirst (View.ld (Val := Elt Ideal) (e' := .bf16) X3 (Rect.unit (s := S1x128x512) ![0, 0, 256] S1x128x128.size ie256)) (View.ld (Val := Elt Ideal) (e' := .bf16) X2 (Rect.unit (s := S1x4096x512) ![0, 0, 256] S1x256x128.size ik256)))
      (keysFirst (View.ld (Val := Elt Ideal) (e' := .bf16) X3 (Rect.unit (s := S1x128x512) ![0, 0, 384] S1x128x128.size ie384)) (View.ld (Val := Elt Ideal) (e' := .bf16) X2 (Rect.unit (s := S1x4096x512) ![0, 0, 384] S1x256x128.size ik384)))
      (View.ld (Val := Elt Ideal) (e' := .f32) X0 (Rect.unit (s := S1x4x1x256) ![0, 0, 0, 0] S1x1x1x256.size is0)) (View.ld (Val := Elt Ideal) (e' := .f32) X0 (Rect.unit (s := S1x4x1x256) ![0, 1, 0, 0] S1x1x1x256.size is1)) (View.ld (Val := Elt Ideal) (e' := .f32) X0 (Rect.unit (s := S1x4x1x256) ![0, 2, 0, 0] S1x1x1x256.size is2)) (View.ld (Val := Elt Ideal) (e' := .f32) X0 (Rect.unit (s := S1x4x1x256) ![0, 3, 0, 0] S1x1x1x256.size is3))
      (View.ld (Val := Elt Ideal) (e' := .f32) X8 (Rect.unit (s := S12x384x256) (off 0) S1x384x256.size ib0)) (View.ld (Val := Elt Ideal) (e' := .f32) X8 (Rect.unit (s := S12x384x256) (off 1) S1x384x256.size ib1)) (View.ld (Val := Elt Ideal) (e' := .f32) X8 (Rect.unit (s := S12x384x256) (off 2) S1x384x256.size ib2)) (View.ld (Val := Elt Ideal) (e' := .f32) X8 (Rect.unit (s := S12x384x256) (off 3) S1x384x256.size ib3))
      (valsFirst (View.ld (Val := Elt Ideal) (e' := .bf16) X6 (Rect.unit (s := S160x128) ![0, 0] S80x128.size iw0)) (View.ld (Val := Elt Ideal) (e' := .bf16) X5 (Rect.unit (s := S160x4096) ![0, 0] S80x256.size iv0)))
      (valsFirst (View.ld (Val := Elt Ideal) (e' := .bf16) X6 (Rect.unit (s := S160x128) ![80, 0] S80x128.size iw80)) (View.ld (Val := Elt Ideal) (e' := .bf16) X5 (Rect.unit (s := S160x4096) ![80, 0] S80x256.size iv80))) x
    = refAt Q K V S b ((Rect.unit (s := S1x4096x512) ![0, 0, 0] S1x128x512.size io).emb x) := by
  have he : (edge 0).val = 1 := rfl
  idx_vars x
  obtain rfl : x0 = 0 := Subsingleton.elim _ _
  refine Eq.trans (turn_at Q K V S hQ hK hS b 0 (fun j => if h : j.val < 128 then ⟨j.val, by omega⟩ else ⟨j.val - 128, by omega⟩) (fun j hj _ => fst_pos hj) _ _ _ _ _ _ _ _ _ _ _ _ _ _ _ _ _ _ ?_ ?_ ?_ ?_ ?_ ?_ ?_ ?_ ?_ ?_ ?_ ?_ ?_ ?_ ?_ ?_ ?_ ?_ _ _) ?_
  · intro a x; exact (ld3 (φ := .f32) X1 0 0 0 _ rfl _ a x (by omega) (by omega) (by omega)).trans ((h1 _ _).trans (query_spot (by dsimp only; omega) rfl))
  · intro a x; exact (ld3 (φ := .f32) X1 0 0 128 _ rfl _ a x (by omega) (by omega) (by omega)).trans ((h1 _ _).trans (query_spot (by dsimp only; omega) rfl))
  · intro a x; exact (ld3 (φ := .f32) X1 0 0 256 _ rfl _ a x (by omega) (by omega) (by omega)).trans ((h1 _ _).trans (query_spot (by dsimp only; omega) rfl))
  · intro a x; exact (ld3 (φ := .f32) X1 0 0 384 _ rfl _ a x (by omega) (by omega) (by omega)).trans ((h1 _ _).trans (query_spot (by dsimp only; omega) rfl))
  · intro j x
    refine (keysFirst_at _ _ j x).trans ?_
    by_cases hj : j.val < 128
    · rw [dif_pos hj, dif_pos hj]; exact ((ld3 (φ := .bf16) X3 0 0 0 _ rfl _ _ x (by omega) (by omega) (by omega)).trans ((h3 _ _).trans (key_spot (by dsimp only <;> omega) rfl)))
    · rw [dif_neg hj, dif_neg hj]; exact ((ld3 (φ := .bf16) X2 0 0 0 _ rfl _ _ x (by omega) (by omega) (by omega)).trans ((h2 _ _).trans (key_spot (by dsimp only <;> omega) rfl)))
  · intro j x
    refine (keysFirst_at _ _ j x).trans ?_
    by_cases hj : j.val < 128
    · rw [dif_pos hj, dif_pos hj]; exact ((ld3 (φ := .bf16) X3 0 0 128 _ rfl _ _ x (by omega) (by omega) (by omega)).trans ((h3 _ _).trans (key_spot (by dsimp only <;> omega) rfl)))
    · rw [dif_neg hj, dif_neg hj]; exact ((ld3 (φ := .bf16) X2 0 0 128 _ rfl _ _ x (by omega) (by omega) (by omega)).trans ((h2 _ _).trans (key_spot (by dsimp only <;> omega) rfl)))
  · intro j x
    refine (keysFirst_at _ _ j x).trans ?_
    by_cases hj : j.val < 128
    · rw [dif_pos hj, dif_pos hj]; exact ((ld3 (φ := .bf16) X3 0 0 256 _ rfl _ _ x (by omega) (by omega) (by omega)).trans ((h3 _ _).trans (key_spot (by dsimp only <;> omega) rfl)))
    · rw [dif_neg hj, dif_neg hj]; exact ((ld3 (φ := .bf16) X2 0 0 256 _ rfl _ _ x (by omega) (by omega) (by omega)).trans ((h2 _ _).trans (key_spot (by dsimp only <;> omega) rfl)))
  · intro j x
    refine (keysFirst_at _ _ j x).trans ?_
    by_cases hj : j.val < 128
    · rw [dif_pos hj, dif_pos hj]; exact ((ld3 (φ := .bf16) X3 0 0 384 _ rfl _ _ x (by omega) (by omega) (by omega)).trans ((h3 _ _).trans (key_spot (by dsimp only <;> omega) rfl)))
    · rw [dif_neg hj, dif_neg hj]; exact ((ld3 (φ := .bf16) X2 0 0 384 _ rfl _ _ x (by omega) (by omega) (by omega)).trans ((h2 _ _).trans (key_spot (by dsimp only <;> omega) rfl)))
  · intro u; exact (ld4 (φ := .f32) X0 0 _ u (by omega)).trans (h0 _ _)
  · intro u; exact (ld4 (φ := .f32) X0 1 _ u (by omega)).trans (h0 _ _)
  · intro u; exact (ld4 (φ := .f32) X0 2 _ u (by omega)).trans (h0 _ _)
  · intro u; exact (ld4 (φ := .f32) X0 3 _ u (by omega)).trans (h0 _ _)
  · intro j u; exact (ld3 (φ := .f32) X8 4 0 0 _ (hoff 0) _ j u (by omega) (by omega) (by omega)).trans ((h8 _ _ _).trans (bias_spot (by dsimp only; omega) (Nat.zero_add _) (Nat.zero_add _)))
  · intro j u; exact (ld3 (φ := .f32) X8 5 0 0 _ (hoff 1) _ j u (by omega) (by omega) (by omega)).trans ((h8 _ _ _).trans (bias_spot (by dsimp only; omega) (Nat.zero_add _) (Nat.zero_add _)))
  · intro j u; exact (ld3 (φ := .f32) X8 6 0 0 _ (hoff 2) _ j u (by omega) (by omega) (by omega)).trans ((h8 _ _ _).trans (bias_spot (by dsimp only; omega) (Nat.zero_add _) (Nat.zero_add _)))
  · intro j u; exact (ld3 (φ := .f32) X8 7 0 0 _ (hoff 3) _ j u (by omega) (by omega) (by omega)).trans ((h8 _ _ _).trans (bias_spot (by dsimp only; omega) (Nat.zero_add _) (Nat.zero_add _)))
  · intro d j
    refine (valsFirst_at _ _ d j).trans ?_
    by_cases hj : j.val < 128
    · exact (dif_pos hj).trans ((ld2 (φ := .bf16) X6 0 0 _ d _ (by omega) (by omega)).trans ((h6 _ _).trans (val_spot rfl (by simp only [dif_pos hj] <;> omega))))
    · exact (dif_neg hj).trans ((ld2 (φ := .bf16) X5 0 0 _ d _ (by omega) (by omega)).trans ((h5 _ _).trans (val_spot rfl (by simp only [dif_neg hj] <;> omega))))
  · intro d j
    refine (valsFirst_at _ _ d j).trans ?_
    by_cases hj : j.val < 128
    · exact (dif_pos hj).trans ((ld2 (φ := .bf16) X6 80 0 _ d _ (by omega) (by omega)).trans ((h6 _ _).trans (val_spot rfl (by simp only [dif_pos hj] <;> omega))))
    · exact (dif_neg hj).trans ((ld2 (φ := .bf16) X5 80 0 _ d _ (by omega) (by omega)).trans ((h5 _ _).trans (val_spot rfl (by simp only [dif_neg hj] <;> omega))))
  · refine ref_spot ?_ ?_
    · refine Eq.trans ?_ (Rect.idx_unit_val _ _ io (ix3 0 x1 x2) 1).symm
      show _ = 0 + x1.val
      dsimp only
      omega
    · exact (Nat.zero_add _).symm.trans (Rect.idx_unit_val _ _ io (ix3 0 x1 x2) 2).symm

end

section
include hQ hK hS h0 h1 h2 h4 h5 h7 h8
/-- The last turn: the block after it comes from a window of its own. -/
theorem last (off : Fin 4 → Fin 3 → ℕ) (hoff : ∀ p, off p = ![8 + p.val, 0, 0])
    {iq0} {iq128} {iq256} {iq384} {ik0} {ik128} {ik256} {ik384} {ie0} {ie128} {ie256} {ie384} {is0} {is1} {is2} {is3} {ib0} {ib1} {ib2} {ib3} {iv0} {iv80} {iw0} {iw80} (io)
    (x : S1x128x512.Idx) :
    rowOf (View.ld (Val := Elt Ideal) (e' := .f32) X1 (Rect.unit (s := S1x4096x512) ![0, 3968, 0] S1x128x128.size iq0)) (View.ld (Val := Elt Ideal) (e' := .f32) X1 (Rect.unit (s := S1x4096x512) ![0, 3968, 128] S1x128x128.size iq128)) (View.ld (Val := Elt Ideal) (e' := .f32) X1 (Rect.unit (s := S1x4096x512) ![0, 3968, 256] S1x128x128.size iq256)) (View.ld (Val := Elt Ideal) (e' := .f32) X1 (Rect.unit (s := S1x4096x512) ![0, 3968, 384] S1x128x128.size iq384))
      (keysLast (View.ld (Val := Elt Ideal) (e' := .bf16) X2 (Rect.unit (s := S1x4096x512) ![0, 3840, 0] S1x256x128.size ik0)) (View.ld (Val := Elt Ideal) (e' := .bf16) X4 (Rect.unit (s := S1x128x512) ![0, 0, 0] S1x128x128.size ie0)))
      (keysLast (View.ld (Val := Elt Ideal) (e' := .bf16) X2 (Rect.unit (s := S1x4096x512) ![0, 3840, 128] S1x256x128.size ik128)) (View.ld (Val := Elt Ideal) (e' := .bf16) X4 (Rect.unit (s := S1x128x512) ![0, 0, 128] S1x128x128.size ie128)))
      (keysLast (View.ld (Val := Elt Ideal) (e' := .bf16) X2 (Rect.unit (s := S1x4096x512) ![0, 3840, 256] S1x256x128.size ik256)) (View.ld (Val := Elt Ideal) (e' := .bf16) X4 (Rect.unit (s := S1x128x512) ![0, 0, 256] S1x128x128.size ie256)))
      (keysLast (View.ld (Val := Elt Ideal) (e' := .bf16) X2 (Rect.unit (s := S1x4096x512) ![0, 3840, 384] S1x256x128.size ik384)) (View.ld (Val := Elt Ideal) (e' := .bf16) X4 (Rect.unit (s := S1x128x512) ![0, 0, 384] S1x128x128.size ie384)))
      (View.ld (Val := Elt Ideal) (e' := .f32) X0 (Rect.unit (s := S1x4x1x256) ![0, 0, 0, 0] S1x1x1x256.size is0)) (View.ld (Val := Elt Ideal) (e' := .f32) X0 (Rect.unit (s := S1x4x1x256) ![0, 1, 0, 0] S1x1x1x256.size is1)) (View.ld (Val := Elt Ideal) (e' := .f32) X0 (Rect.unit (s := S1x4x1x256) ![0, 2, 0, 0] S1x1x1x256.size is2)) (View.ld (Val := Elt Ideal) (e' := .f32) X0 (Rect.unit (s := S1x4x1x256) ![0, 3, 0, 0] S1x1x1x256.size is3))
      (View.ld (Val := Elt Ideal) (e' := .f32) X8 (Rect.unit (s := S12x384x256) (off 0) S1x384x256.size ib0)) (View.ld (Val := Elt Ideal) (e' := .f32) X8 (Rect.unit (s := S12x384x256) (off 1) S1x384x256.size ib1)) (View.ld (Val := Elt Ideal) (e' := .f32) X8 (Rect.unit (s := S12x384x256) (off 2) S1x384x256.size ib2)) (View.ld (Val := Elt Ideal) (e' := .f32) X8 (Rect.unit (s := S12x384x256) (off 3) S1x384x256.size ib3))
      (valsLast (View.ld (Val := Elt Ideal) (e' := .bf16) X5 (Rect.unit (s := S160x4096) ![0, 3840] S80x256.size iv0)) (View.ld (Val := Elt Ideal) (e' := .bf16) X7 (Rect.unit (s := S160x128) ![0, 0] S80x128.size iw0)))
      (valsLast (View.ld (Val := Elt Ideal) (e' := .bf16) X5 (Rect.unit (s := S160x4096) ![80, 3840] S80x256.size iv80)) (View.ld (Val := Elt Ideal) (e' := .bf16) X7 (Rect.unit (s := S160x128) ![80, 0] S80x128.size iw80))) x
    = refAt Q K V S b ((Rect.unit (s := S1x4096x512) ![0, 3968, 0] S1x128x512.size io).emb x) := by
  have he : (edge 31).val = 2 := rfl
  idx_vars x
  obtain rfl : x0 = 0 := Subsingleton.elim _ _
  refine Eq.trans (turn_at Q K V S hQ hK hS b 31 (fun j => if h : j.val < 256 then ⟨3840 + j.val, by omega⟩ else ⟨3968 + (j.val - 256), by omega⟩) (fun j _ hj => lst_pos hj) _ _ _ _ _ _ _ _ _ _ _ _ _ _ _ _ _ _ ?_ ?_ ?_ ?_ ?_ ?_ ?_ ?_ ?_ ?_ ?_ ?_ ?_ ?_ ?_ ?_ ?_ ?_ _ _) ?_
  · intro a x; exact (ld3 (φ := .f32) X1 0 3968 0 _ rfl _ a x (by omega) (by omega) (by omega)).trans ((h1 _ _).trans (query_spot (by dsimp only; omega) rfl))
  · intro a x; exact (ld3 (φ := .f32) X1 0 3968 128 _ rfl _ a x (by omega) (by omega) (by omega)).trans ((h1 _ _).trans (query_spot (by dsimp only; omega) rfl))
  · intro a x; exact (ld3 (φ := .f32) X1 0 3968 256 _ rfl _ a x (by omega) (by omega) (by omega)).trans ((h1 _ _).trans (query_spot (by dsimp only; omega) rfl))
  · intro a x; exact (ld3 (φ := .f32) X1 0 3968 384 _ rfl _ a x (by omega) (by omega) (by omega)).trans ((h1 _ _).trans (query_spot (by dsimp only; omega) rfl))
  · intro j x
    refine (keysLast_at _ _ j x).trans ?_
    by_cases hj : j.val < 256
    · rw [dif_pos hj, dif_pos hj]; exact ((ld3 (φ := .bf16) X2 0 3840 0 _ rfl _ _ x (by omega) (by omega) (by omega)).trans ((h2 _ _).trans (key_spot (by dsimp only <;> omega) rfl)))
    · rw [dif_neg hj, dif_neg hj]; exact ((ld3 (φ := .bf16) X4 0 0 0 _ rfl _ _ x (by omega) (by omega) (by omega)).trans ((h4 _ _).trans (key_spot (by dsimp only <;> omega) rfl)))
  · intro j x
    refine (keysLast_at _ _ j x).trans ?_
    by_cases hj : j.val < 256
    · rw [dif_pos hj, dif_pos hj]; exact ((ld3 (φ := .bf16) X2 0 3840 128 _ rfl _ _ x (by omega) (by omega) (by omega)).trans ((h2 _ _).trans (key_spot (by dsimp only <;> omega) rfl)))
    · rw [dif_neg hj, dif_neg hj]; exact ((ld3 (φ := .bf16) X4 0 0 128 _ rfl _ _ x (by omega) (by omega) (by omega)).trans ((h4 _ _).trans (key_spot (by dsimp only <;> omega) rfl)))
  · intro j x
    refine (keysLast_at _ _ j x).trans ?_
    by_cases hj : j.val < 256
    · rw [dif_pos hj, dif_pos hj]; exact ((ld3 (φ := .bf16) X2 0 3840 256 _ rfl _ _ x (by omega) (by omega) (by omega)).trans ((h2 _ _).trans (key_spot (by dsimp only <;> omega) rfl)))
    · rw [dif_neg hj, dif_neg hj]; exact ((ld3 (φ := .bf16) X4 0 0 256 _ rfl _ _ x (by omega) (by omega) (by omega)).trans ((h4 _ _).trans (key_spot (by dsimp only <;> omega) rfl)))
  · intro j x
    refine (keysLast_at _ _ j x).trans ?_
    by_cases hj : j.val < 256
    · rw [dif_pos hj, dif_pos hj]; exact ((ld3 (φ := .bf16) X2 0 3840 384 _ rfl _ _ x (by omega) (by omega) (by omega)).trans ((h2 _ _).trans (key_spot (by dsimp only <;> omega) rfl)))
    · rw [dif_neg hj, dif_neg hj]; exact ((ld3 (φ := .bf16) X4 0 0 384 _ rfl _ _ x (by omega) (by omega) (by omega)).trans ((h4 _ _).trans (key_spot (by dsimp only <;> omega) rfl)))
  · intro u; exact (ld4 (φ := .f32) X0 0 _ u (by omega)).trans (h0 _ _)
  · intro u; exact (ld4 (φ := .f32) X0 1 _ u (by omega)).trans (h0 _ _)
  · intro u; exact (ld4 (φ := .f32) X0 2 _ u (by omega)).trans (h0 _ _)
  · intro u; exact (ld4 (φ := .f32) X0 3 _ u (by omega)).trans (h0 _ _)
  · intro j u; exact (ld3 (φ := .f32) X8 8 0 0 _ (hoff 0) _ j u (by omega) (by omega) (by omega)).trans ((h8 _ _ _).trans (bias_spot (by dsimp only; omega) (Nat.zero_add _) (Nat.zero_add _)))
  · intro j u; exact (ld3 (φ := .f32) X8 9 0 0 _ (hoff 1) _ j u (by omega) (by omega) (by omega)).trans ((h8 _ _ _).trans (bias_spot (by dsimp only; omega) (Nat.zero_add _) (Nat.zero_add _)))
  · intro j u; exact (ld3 (φ := .f32) X8 10 0 0 _ (hoff 2) _ j u (by omega) (by omega) (by omega)).trans ((h8 _ _ _).trans (bias_spot (by dsimp only; omega) (Nat.zero_add _) (Nat.zero_add _)))
  · intro j u; exact (ld3 (φ := .f32) X8 11 0 0 _ (hoff 3) _ j u (by omega) (by omega) (by omega)).trans ((h8 _ _ _).trans (bias_spot (by dsimp only; omega) (Nat.zero_add _) (Nat.zero_add _)))
  · intro d j
    refine (valsLast_at _ _ d j).trans ?_
    by_cases hj : j.val < 256
    · exact (dif_pos hj).trans ((ld2 (φ := .bf16) X5 0 3840 _ d _ (by omega) (by omega)).trans ((h5 _ _).trans (val_spot rfl (by simp only [dif_pos hj] <;> omega))))
    · exact (dif_neg hj).trans ((ld2 (φ := .bf16) X7 0 0 _ d _ (by omega) (by omega)).trans ((h7 _ _).trans (val_spot rfl (by simp only [dif_neg hj] <;> omega))))
  · intro d j
    refine (valsLast_at _ _ d j).trans ?_
    by_cases hj : j.val < 256
    · exact (dif_pos hj).trans ((ld2 (φ := .bf16) X5 80 3840 _ d _ (by omega) (by omega)).trans ((h5 _ _).trans (val_spot rfl (by simp only [dif_pos hj] <;> omega))))
    · exact (dif_neg hj).trans ((ld2 (φ := .bf16) X7 80 0 _ d _ (by omega) (by omega)).trans ((h7 _ _).trans (val_spot rfl (by simp only [dif_neg hj] <;> omega))))
  · refine ref_spot ?_ ?_
    · refine Eq.trans ?_ (Rect.idx_unit_val _ _ io (ix3 0 x1 x2) 1).symm
      show _ = 3968 + x1.val
      dsimp only
      omega
    · exact (Nat.zero_add _).symm.trans (Rect.idx_unit_val _ _ io (ix3 0 x1 x2) 2).symm

end

end
end Cert.AttnPair

open Idealize.ShloMosaic.Pipeline (Dat)

namespace Cert.KernelIdeal.Value
open Cert.KernelIdeal Cert.KernelIdeal.Gen
open Cert.ReferenceIdeal.Value (REF)
open Cert.AttnPair (refAt)

/-- Stores that are blocks of `G` leave `G` at every index one of them covers. -/
theorem canon_of_piecesOf {s : Shape} {e : EltTy} (G : s.Idx → Elt Ideal e) (L : List (View.Piece (Elt Ideal) s e)) (h : View.PiecesOf G L) (y : s.Idx)
    (hc : ∃ p ∈ L, y ∈ p.1.set) : View.canon L y = G y := by
  have A := View.canon_append_of_piecesOf G [] L h y hc
  rwa [List.append_nil] at A

/-- A position of the output block, in the output array. -/
theorem out_at (t : Fin cfg0.N) (s : Fin 4096) (l : Fin 512) (B : S8x4096x512.Idx → EReal) :
    B (ix3 (batch t) s l) = B (((View.whole main_v59).slice (win0_9.rect t)).emb (ix3 0 s l)) := by
  symm
  blk_ext [batch, idx t]

variable (m : (ℓ : Loc nD τ sig) → Buf (Elt Ideal) ℓ)

set_option maxHeartbeats 40000000 in
/-- After the last grid point the output array holds the reference's result, the queries, keys and sinks being numbers. -/
theorem final (c : Dev nD)
    (hQ : ∀ i, (m ((c : Thread nD τ).loc main_arg0) : FVec Ideal S8x4096x8x64 .f32) i = (((m ((c : Thread nD τ).loc main_arg0) : FVec Ideal S8x4096x8x64 .f32) i).toReal : EReal))
    (hK : ∀ i, (m ((c : Thread nD τ).loc main_arg1) : FVec Ideal S8x4096x2x64 .f32) i = (((m ((c : Thread nD τ).loc main_arg1) : FVec Ideal S8x4096x2x64 .f32) i).toReal : EReal))
    (hS : ∀ i, (m ((c : Thread nD τ).loc main_arg3) : FVec Ideal S8 .f32) i = (((m ((c : Thread nD τ).loc main_arg3) : FVec Ideal S8 .f32) i).toReal : EReal)) :
    (dats m 0 c).arrAt 9 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t _ y => ?_
  blk_simp
  rw [after0_9]
  unfold outsAt0
  frame_open
  simp (disch := decide) only [↓ View.readCov_skip, ↓ View.readCov_cons_toLoadRect, ↓ View.readCov_fill]
  frame_out
  refine (canon_of_piecesOf (refAt (m ((c : Thread nD τ).loc main_arg0)) (m ((c : Thread nD τ).loc main_arg1)) (m ((c : Thread nD τ).loc main_arg2)) (m ((c : Thread nD τ).loc main_arg3)) (batch t)) _ ?_ y ?_).trans ?_
  · refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
    · exact fun x => (congrFun (row31 _ _ _ _ _ _ _ _ _ _ _ _ _ _ _ _ _ _ _ _ _ _ _ _) x).trans (Cert.AttnPair.last (m ((c : Thread nD τ).loc main_arg0)) (m ((c : Thread nD τ).loc main_arg1)) (m ((c : Thread nD τ).loc main_arg2)) (m ((c : Thread nD τ).loc main_arg3)) hQ hK hS (batch t) _ _ _ _ _ _ _ (blk0_at m c t) (blk1_at m c t) (blk2_at m c t) (blk4_at m c t) (blk5_at m c t) (blk7_at m c t) (blk8_at m c t) (fun p => k0_off2 (grid0.coords t) (BitVec.ofNat 32 p.val)) (off2_eq t) inb_S1x4096x512_S1x128x512_0_3968_0 x)
    · exact fun x => (congrFun (row30 _ _ _ _ _ _ _ _ _ _ _ _ _ _ _ _ _ _) x).trans (Cert.AttnPair.mid (m ((c : Thread nD τ).loc main_arg0)) (m ((c : Thread nD τ).loc main_arg1)) (m ((c : Thread nD τ).loc main_arg2)) (m ((c : Thread nD τ).loc main_arg3)) hQ hK hS (batch t) _ _ _ _ _ (blk0_at m c t) (blk1_at m c t) (blk2_at m c t) (blk5_at m c t) (blk8_at m c t) 30 3840 3712 rfl rfl (by decide) inb_S1x4096x512_S1x128x512_0_3840_0 x)
    · exact fun x => (congrFun (row29 _ _ _ _ _ _ _ _ _ _ _ _ _ _ _ _ _ _) x).trans (Cert.AttnPair.mid (m ((c : Thread nD τ).loc main_arg0)) (m ((c : Thread nD τ).loc main_arg1)) (m ((c : Thread nD τ).loc main_arg2)) (m ((c : Thread nD τ).loc main_arg3)) hQ hK hS (batch t) _ _ _ _ _ (blk0_at m c t) (blk1_at m c t) (blk2_at m c t) (blk5_at m c t) (blk8_at m c t) 29 3712 3584 rfl rfl (by decide) inb_S1x4096x512_S1x128x512_0_3712_0 x)
    · exact fun x => (congrFun (row28 _ _ _ _ _ _ _ _ _ _ _ _ _ _ _ _ _ _) x).trans (Cert.AttnPair.mid (m ((c : Thread nD τ).loc main_arg0)) (m ((c : Thread nD τ).loc main_arg1)) (m ((c : Thread nD τ).loc main_arg2)) (m ((c : Thread nD τ).loc main_arg3)) hQ hK hS (batch t) _ _ _ _ _ (blk0_at m c t) (blk1_at m c t) (blk2_at m c t) (blk5_at m c t) (blk8_at m c t) 28 3584 3456 rfl rfl (by decide) inb_S1x4096x512_S1x128x512_0_3584_0 x)
    · exact fun x => (congrFun (row27 _ _ _ _ _ _ _ _ _ _ _ _ _ _ _ _ _ _) x).trans (Cert.AttnPair.mid (m ((c : Thread nD τ).loc main_arg0)) (m ((c : Thread nD τ).loc main_arg1)) (m ((c : Thread nD τ).loc main_arg2)) (m ((c : Thread nD τ).loc main_arg3)) hQ hK hS (batch t) _ _ _ _ _ (blk0_at m c t) (blk1_at m c t) (blk2_at m c t) (blk5_at m c t) (blk8_at m c t) 27 3456 3328 rfl rfl (by decide) inb_S1x4096x512_S1x128x512_0_3456_0 x)
    · exact fun x => (congrFun (row26 _ _ _ _ _ _ _ _ _ _ _ _ _ _ _ _ _ _) x).trans (Cert.AttnPair.mid (m ((c : Thread nD τ).loc main_arg0)) (m ((c : Thread nD τ).loc main_arg1)) (m ((c : Thread nD τ).loc main_arg2)) (m ((c : Thread nD τ).loc main_arg3)) hQ hK hS (batch t) _ _ _ _ _ (blk0_at m c t) (blk1_at m c t) (blk2_at m c t) (blk5_at m c t) (blk8_at m c t) 26 3328 3200 rfl rfl (by decide) inb_S1x4096x512_S1x128x512_0_3328_0 x)
    · exact fun x => (congrFun (row25 _ _ _ _ _ _ _ _ _ _ _ _ _ _ _ _ _ _) x).trans (Cert.AttnPair.mid (m ((c : Thread nD τ).loc main_arg0)) (m ((c : Thread nD τ).loc main_arg1)) (m ((c : Thread nD τ).loc main_arg2)) (m ((c : Thread nD τ).loc main_arg3)) hQ hK hS (batch t) _ _ _ _ _ (blk0_at m c t) (blk1_at m c t) (blk2_at m c t) (blk5_at m c t) (blk8_at m c t) 25 3200 3072 rfl rfl (by decide) inb_S1x4096x512_S1x128x512_0_3200_0 x)
    · exact fun x => (congrFun (row24 _ _ _ _ _ _ _ _ _ _ _ _ _ _ _ _ _ _) x).trans (Cert.AttnPair.mid (m ((c : Thread nD τ).loc main_arg0)) (m ((c : Thread nD τ).loc main_arg1)) (m ((c : Thread nD τ).loc main_arg2)) (m ((c : Thread nD τ).loc main_arg3)) hQ hK hS (batch t) _ _ _ _ _ (blk0_at m c t) (blk1_at m c t) (blk2_at m c t) (blk5_at m c t) (blk8_at m c t) 24 3072 2944 rfl rfl (by decide) inb_S1x4096x512_S1x128x512_0_3072_0 x)
    · exact fun x => (congrFun (row23 _ _ _ _ _ _ _ _ _ _ _ _ _ _ _ _ _ _) x).trans (Cert.AttnPair.mid (m ((c : Thread nD τ).loc main_arg0)) (m ((c : Thread nD τ).loc main_arg1)) (m ((c : Thread nD τ).loc main_arg2)) (m ((c : Thread nD τ).loc main_arg3)) hQ hK hS (batch t) _ _ _ _ _ (blk0_at m c t) (blk1_at m c t) (blk2_at m c t) (blk5_at m c t) (blk8_at m c t) 23 2944 2816 rfl rfl (by decide) inb_S1x4096x512_S1x128x512_0_2944_0 x)
    · exact fun x => (congrFun (row22 _ _ _ _ _ _ _ _ _ _ _ _ _ _ _ _ _ _) x).trans (Cert.AttnPair.mid (m ((c : Thread nD τ).loc main_arg0)) (m ((c : Thread nD τ).loc main_arg1)) (m ((c : Thread nD τ).loc main_arg2)) (m ((c : Thread nD τ).loc main_arg3)) hQ hK hS (batch t) _ _ _ _ _ (blk0_at m c t) (blk1_at m c t) (blk2_at m c t) (blk5_at m c t) (blk8_at m c t) 22 2816 2688 rfl rfl (by decide) inb_S1x4096x512_S1x128x512_0_2816_0 x)
    · exact fun x => (congrFun (row21 _ _ _ _ _ _ _ _ _ _ _ _ _ _ _ _ _ _) x).trans (Cert.AttnPair.mid (m ((c : Thread nD τ).loc main_arg0)) (m ((c : Thread nD τ).loc main_arg1)) (m ((c : Thread nD τ).loc main_arg2)) (m ((c : Thread nD τ).loc main_arg3)) hQ hK hS (batch t) _ _ _ _ _ (blk0_at m c t) (blk1_at m c t) (blk2_at m c t) (blk5_at m c t) (blk8_at m c t) 21 2688 2560 rfl rfl (by decide) inb_S1x4096x512_S1x128x512_0_2688_0 x)
    · exact fun x => (congrFun (row20 _ _ _ _ _ _ _ _ _ _ _ _ _ _ _ _ _ _) x).trans (Cert.AttnPair.mid (m ((c : Thread nD τ).loc main_arg0)) (m ((c : Thread nD τ).loc main_arg1)) (m ((c : Thread nD τ).loc main_arg2)) (m ((c : Thread nD τ).loc main_arg3)) hQ hK hS (batch t) _ _ _ _ _ (blk0_at m c t) (blk1_at m c t) (blk2_at m c t) (blk5_at m c t) (blk8_at m c t) 20 2560 2432 rfl rfl (by decide) inb_S1x4096x512_S1x128x512_0_2560_0 x)
    · exact fun x => (congrFun (row19 _ _ _ _ _ _ _ _ _ _ _ _ _ _ _ _ _ _) x).trans (Cert.AttnPair.mid (m ((c : Thread nD τ).loc main_arg0)) (m ((c : Thread nD τ).loc main_arg1)) (m ((c : Thread nD τ).loc main_arg2)) (m ((c : Thread nD τ).loc main_arg3)) hQ hK hS (batch t) _ _ _ _ _ (blk0_at m c t) (blk1_at m c t) (blk2_at m c t) (blk5_at m c t) (blk8_at m c t) 19 2432 2304 rfl rfl (by decide) inb_S1x4096x512_S1x128x512_0_2432_0 x)
    · exact fun x => (congrFun (row18 _ _ _ _ _ _ _ _ _ _ _ _ _ _ _ _ _ _) x).trans (Cert.AttnPair.mid (m ((c : Thread nD τ).loc main_arg0)) (m ((c : Thread nD τ).loc main_arg1)) (m ((c : Thread nD τ).loc main_arg2)) (m ((c : Thread nD τ).loc main_arg3)) hQ hK hS (batch t) _ _ _ _ _ (blk0_at m c t) (blk1_at m c t) (blk2_at m c t) (blk5_at m c t) (blk8_at m c t) 18 2304 2176 rfl rfl (by decide) inb_S1x4096x512_S1x128x512_0_2304_0 x)
    · exact fun x => (congrFun (row17 _ _ _ _ _ _ _ _ _ _ _ _ _ _ _ _ _ _) x).trans (Cert.AttnPair.mid (m ((c : Thread nD τ).loc main_arg0)) (m ((c : Thread nD τ).loc main_arg1)) (m ((c : Thread nD τ).loc main_arg2)) (m ((c : Thread nD τ).loc main_arg3)) hQ hK hS (batch t) _ _ _ _ _ (blk0_at m c t) (blk1_at m c t) (blk2_at m c t) (blk5_at m c t) (blk8_at m c t) 17 2176 2048 rfl rfl (by decide) inb_S1x4096x512_S1x128x512_0_2176_0 x)
    · exact fun x => (congrFun (row16 _ _ _ _ _ _ _ _ _ _ _ _ _ _ _ _ _ _) x).trans (Cert.AttnPair.mid (m ((c : Thread nD τ).loc main_arg0)) (m ((c : Thread nD τ).loc main_arg1)) (m ((c : Thread nD τ).loc main_arg2)) (m ((c : Thread nD τ).loc main_arg3)) hQ hK hS (batch t) _ _ _ _ _ (blk0_at m c t) (blk1_at m c t) (blk2_at m c t) (blk5_at m c t) (blk8_at m c t) 16 2048 1920 rfl rfl (by decide) inb_S1x4096x512_S1x128x512_0_2048_0 x)
    · exact fun x => (congrFun (row15 _ _ _ _ _ _ _ _ _ _ _ _ _ _ _ _ _ _) x).trans (Cert.AttnPair.mid (m ((c : Thread nD τ).loc main_arg0)) (m ((c : Thread nD τ).loc main_arg1)) (m ((c : Thread nD τ).loc main_arg2)) (m ((c : Thread nD τ).loc main_arg3)) hQ hK hS (batch t) _ _ _ _ _ (blk0_at m c t) (blk1_at m c t) (blk2_at m c t) (blk5_at m c t) (blk8_at m c t) 15 1920 1792 rfl rfl (by decide) inb_S1x4096x512_S1x128x512_0_1920_0 x)
    · exact fun x => (congrFun (row14 _ _ _ _ _ _ _ _ _ _ _ _ _ _ _ _ _ _) x).trans (Cert.AttnPair.mid (m ((c : Thread nD τ).loc main_arg0)) (m ((c : Thread nD τ).loc main_arg1)) (m ((c : Thread nD τ).loc main_arg2)) (m ((c : Thread nD τ).loc main_arg3)) hQ hK hS (batch t) _ _ _ _ _ (blk0_at m c t) (blk1_at m c t) (blk2_at m c t) (blk5_at m c t) (blk8_at m c t) 14 1792 1664 rfl rfl (by decide) inb_S1x4096x512_S1x128x512_0_1792_0 x)
    · exact fun x => (congrFun (row13 _ _ _ _ _ _ _ _ _ _ _ _ _ _ _ _ _ _) x).trans (Cert.AttnPair.mid (m ((c : Thread nD τ).loc main_arg0)) (m ((c : Thread nD τ).loc main_arg1)) (m ((c : Thread nD τ).loc main_arg2)) (m ((c : Thread nD τ).loc main_arg3)) hQ hK hS (batch t) _ _ _ _ _ (blk0_at m c t) (blk1_at m c t) (blk2_at m c t) (blk5_at m c t) (blk8_at m c t) 13 1664 1536 rfl rfl (by decide) inb_S1x4096x512_S1x128x512_0_1664_0 x)
    · exact fun x => (congrFun (row12 _ _ _ _ _ _ _ _ _ _ _ _ _ _ _ _ _ _) x).trans (Cert.AttnPair.mid (m ((c : Thread nD τ).loc main_arg0)) (m ((c : Thread nD τ).loc main_arg1)) (m ((c : Thread nD τ).loc main_arg2)) (m ((c : Thread nD τ).loc main_arg3)) hQ hK hS (batch t) _ _ _ _ _ (blk0_at m c t) (blk1_at m c t) (blk2_at m c t) (blk5_at m c t) (blk8_at m c t) 12 1536 1408 rfl rfl (by decide) inb_S1x4096x512_S1x128x512_0_1536_0 x)
    · exact fun x => (congrFun (row11 _ _ _ _ _ _ _ _ _ _ _ _ _ _ _ _ _ _) x).trans (Cert.AttnPair.mid (m ((c : Thread nD τ).loc main_arg0)) (m ((c : Thread nD τ).loc main_arg1)) (m ((c : Thread nD τ).loc main_arg2)) (m ((c : Thread nD τ).loc main_arg3)) hQ hK hS (batch t) _ _ _ _ _ (blk0_at m c t) (blk1_at m c t) (blk2_at m c t) (blk5_at m c t) (blk8_at m c t) 11 1408 1280 rfl rfl (by decide) inb_S1x4096x512_S1x128x512_0_1408_0 x)
    · exact fun x => (congrFun (row10 _ _ _ _ _ _ _ _ _ _ _ _ _ _ _ _ _ _) x).trans (Cert.AttnPair.mid (m ((c : Thread nD τ).loc main_arg0)) (m ((c : Thread nD τ).loc main_arg1)) (m ((c : Thread nD τ).loc main_arg2)) (m ((c : Thread nD τ).loc main_arg3)) hQ hK hS (batch t) _ _ _ _ _ (blk0_at m c t) (blk1_at m c t) (blk2_at m c t) (blk5_at m c t) (blk8_at m c t) 10 1280 1152 rfl rfl (by decide) inb_S1x4096x512_S1x128x512_0_1280_0 x)
    · exact fun x => (congrFun (row9 _ _ _ _ _ _ _ _ _ _ _ _ _ _ _ _ _ _) x).trans (Cert.AttnPair.mid (m ((c : Thread nD τ).loc main_arg0)) (m ((c : Thread nD τ).loc main_arg1)) (m ((c : Thread nD τ).loc main_arg2)) (m ((c : Thread nD τ).loc main_arg3)) hQ hK hS (batch t) _ _ _ _ _ (blk0_at m c t) (blk1_at m c t) (blk2_at m c t) (blk5_at m c t) (blk8_at m c t) 9 1152 1024 rfl rfl (by decide) inb_S1x4096x512_S1x128x512_0_1152_0 x)
    · exact fun x => (congrFun (row8 _ _ _ _ _ _ _ _ _ _ _ _ _ _ _ _ _ _) x).trans (Cert.AttnPair.mid (m ((c : Thread nD τ).loc main_arg0)) (m ((c : Thread nD τ).loc main_arg1)) (m ((c : Thread nD τ).loc main_arg2)) (m ((c : Thread nD τ).loc main_arg3)) hQ hK hS (batch t) _ _ _ _ _ (blk0_at m c t) (blk1_at m c t) (blk2_at m c t) (blk5_at m c t) (blk8_at m c t) 8 1024 896 rfl rfl (by decide) inb_S1x4096x512_S1x128x512_0_1024_0 x)
    · exact fun x => (congrFun (row7 _ _ _ _ _ _ _ _ _ _ _ _ _ _ _ _ _ _) x).trans (Cert.AttnPair.mid (m ((c : Thread nD τ).loc main_arg0)) (m ((c : Thread nD τ).loc main_arg1)) (m ((c : Thread nD τ).loc main_arg2)) (m ((c : Thread nD τ).loc main_arg3)) hQ hK hS (batch t) _ _ _ _ _ (blk0_at m c t) (blk1_at m c t) (blk2_at m c t) (blk5_at m c t) (blk8_at m c t) 7 896 768 rfl rfl (by decide) inb_S1x4096x512_S1x128x512_0_896_0 x)
    · exact fun x => (congrFun (row6 _ _ _ _ _ _ _ _ _ _ _ _ _ _ _ _ _ _) x).trans (Cert.AttnPair.mid (m ((c : Thread nD τ).loc main_arg0)) (m ((c : Thread nD τ).loc main_arg1)) (m ((c : Thread nD τ).loc main_arg2)) (m ((c : Thread nD τ).loc main_arg3)) hQ hK hS (batch t) _ _ _ _ _ (blk0_at m c t) (blk1_at m c t) (blk2_at m c t) (blk5_at m c t) (blk8_at m c t) 6 768 640 rfl rfl (by decide) inb_S1x4096x512_S1x128x512_0_768_0 x)
    · exact fun x => (congrFun (row5 _ _ _ _ _ _ _ _ _ _ _ _ _ _ _ _ _ _) x).trans (Cert.AttnPair.mid (m ((c : Thread nD τ).loc main_arg0)) (m ((c : Thread nD τ).loc main_arg1)) (m ((c : Thread nD τ).loc main_arg2)) (m ((c : Thread nD τ).loc main_arg3)) hQ hK hS (batch t) _ _ _ _ _ (blk0_at m c t) (blk1_at m c t) (blk2_at m c t) (blk5_at m c t) (blk8_at m c t) 5 640 512 rfl rfl (by decide) inb_S1x4096x512_S1x128x512_0_640_0 x)
    · exact fun x => (congrFun (row4 _ _ _ _ _ _ _ _ _ _ _ _ _ _ _ _ _ _) x).trans (Cert.AttnPair.mid (m ((c : Thread nD τ).loc main_arg0)) (m ((c : Thread nD τ).loc main_arg1)) (m ((c : Thread nD τ).loc main_arg2)) (m ((c : Thread nD τ).loc main_arg3)) hQ hK hS (batch t) _ _ _ _ _ (blk0_at m c t) (blk1_at m c t) (blk2_at m c t) (blk5_at m c t) (blk8_at m c t) 4 512 384 rfl rfl (by decide) inb_S1x4096x512_S1x128x512_0_512_0 x)
    · exact fun x => (congrFun (row3 _ _ _ _ _ _ _ _ _ _ _ _ _ _ _ _ _ _) x).trans (Cert.AttnPair.mid (m ((c : Thread nD τ).loc main_arg0)) (m ((c : Thread nD τ).loc main_arg1)) (m ((c : Thread nD τ).loc main_arg2)) (m ((c : Thread nD τ).loc main_arg3)) hQ hK hS (batch t) _ _ _ _ _ (blk0_at m c t) (blk1_at m c t) (blk2_at m c t) (blk5_at m c t) (blk8_at m c t) 3 384 256 rfl rfl (by decide) inb_S1x4096x512_S1x128x512_0_384_0 x)
    · exact fun x => (congrFun (row2 _ _ _ _ _ _ _ _ _ _ _ _ _ _ _ _ _ _) x).trans (Cert.AttnPair.mid (m ((c : Thread nD τ).loc main_arg0)) (m ((c : Thread nD τ).loc main_arg1)) (m ((c : Thread nD τ).loc main_arg2)) (m ((c : Thread nD τ).loc main_arg3)) hQ hK hS (batch t) _ _ _ _ _ (blk0_at m c t) (blk1_at m c t) (blk2_at m c t) (blk5_at m c t) (blk8_at m c t) 2 256 128 rfl rfl (by decide) inb_S1x4096x512_S1x128x512_0_256_0 x)
    · exact fun x => (congrFun (row1 _ _ _ _ _ _ _ _ _ _ _ _ _ _ _ _ _ _) x).trans (Cert.AttnPair.mid (m ((c : Thread nD τ).loc main_arg0)) (m ((c : Thread nD τ).loc main_arg1)) (m ((c : Thread nD τ).loc main_arg2)) (m ((c : Thread nD τ).loc main_arg3)) hQ hK hS (batch t) _ _ _ _ _ (blk0_at m c t) (blk1_at m c t) (blk2_at m c t) (blk5_at m c t) (blk8_at m c t) 1 128 0 rfl rfl (by decide) inb_S1x4096x512_S1x128x512_0_128_0 x)
    · exact fun x => (congrFun (row0 _ _ _ _ _ _ _ _ _ _ _ _ _ _ _ _ _ _ _ _ _ _ _ _) x).trans (Cert.AttnPair.first (m ((c : Thread nD τ).loc main_arg0)) (m ((c : Thread nD τ).loc main_arg1)) (m ((c : Thread nD τ).loc main_arg2)) (m ((c : Thread nD τ).loc main_arg3)) hQ hK hS (batch t) _ _ _ _ _ _ _ (blk0_at m c t) (blk1_at m c t) (blk2_at m c t) (blk3_at m c t) (blk5_at m c t) (blk6_at m c t) (blk8_at m c t) (fun p => k0_off1 (grid0.coords t) (BitVec.ofNat 32 p.val)) (off1_eq t) inb_S1x4096x512_S1x128x512_0_0_0 x)
  · exact View.cover_of_tiledL (s := S1x4096x512) _ S1x128x512.size (by sl_kernel_rfl) y
  · idx_vars y
    obtain rfl : y0 = 0 := Subsingleton.elim _ _
    exact out_at t y1 y2 (REF (m ((c : Thread nD τ).loc main_arg0)) (m ((c : Thread nD τ).loc main_arg1)) (m ((c : Thread nD τ).loc main_arg2)) (m ((c : Thread nD τ).loc main_arg3)))
end Cert.KernelIdeal.Value
end
-- ==== Proof.AttnPre.lean ====
module

public import proofs.«01_k».proof.Pre_finite
public import Idealize.ShloMosaic.Lib.ReduceAll
public import Idealize.ShloMosaic.Lib.Pipeline.Value
public import Idealize.ShloMosaic.PureOps.Ideal.Laws

@[expose] public section

noncomputable section
open Idealize.ShloMosaic

/-! What the precondition `finite` says: every query, key and sink is a real number. -/

namespace Cert.Pre_finite

/-- The precondition's shape relations. -/
instance facts : Cert.Pre_finite.Facts where
  bcast_S_S8x4096x8x64 := by decide
  reducesTo_S8x4096x8x64_S_d0_1_2_3 := by decide
  h_S_ := by decide
  bcast_S_S8x4096x2x64 := by decide
  reducesTo_S8x4096x2x64_S_d0_1_2_3 := by decide
  bcast_S_S8 := by decide
  reducesTo_S8_S_d0 := by decide

/-- The shape without axes has one index. -/
instance scalar_index : Subsingleton S_.Idx := ⟨fun a b => funext fun d => d.elim0⟩

/-- Two bits whose `and` is one are both one. -/
theorem and_one (a b : BitVec 1) (h : IntOp.andi a b = 1#1) : a = 1#1 ∧ b = 1#1 := by
  revert h; unfold IntOp.andi; revert a b; decide

/-- An extended real whose absolute value is below infinity is a real number. -/
theorem real_of_lt (x : EReal) (h : Ideal.cmp .olt (max x (-x)) (Ideal.ofBits .f32 0x7F800000#32) = 1#1) :
    x = ((x.toReal : ℝ) : EReal) := by
  have htop : Ideal.ofBits .f32 0x7F800000#32 = ⊤ := by simp [Ideal.ofBits, Ideal.ieee]
  rw [htop] at h
  refine (EReal.coe_toReal ?_ ?_).symm
  · rintro rfl; simp [Ideal.cmp] at h
  · rintro rfl; simp [Ideal.cmp] at h

/-- Under the precondition the queries, the keys and the sinks are real numbers. -/
theorem reals (a0 : FVec Ideal S8x4096x8x64 .f32) (a1 a2 : FVec Ideal S8x4096x2x64 .f32) (a3 : FVec Ideal S8 .f32)
    (h : fn (F := Ideal) a0 a1 a2 a3 = fun _ => 1#1) :
    (∀ i, a0 i = (((a0 i : EReal).toReal : ℝ) : EReal)) ∧ (∀ i, a1 i = (((a1 i : EReal).toReal : ℝ) : EReal))
      ∧ (∀ i, a3 i = (((a3 i : EReal).toReal : ℝ) : EReal)) := by
  obtain ⟨h01, h3⟩ := and_one _ _ (congrFun h (Shape.Idx.first Facts.h_S_))
  obtain ⟨h0, h1⟩ := and_one _ _ h01
  exact ⟨fun i => real_of_lt _ (Host.reduce_andi_all _ _ _ _ _ h0 i), fun i => real_of_lt _ (Host.reduce_andi_all _ _ _ _ _ h1 i),
    fun i => real_of_lt _ (Host.reduce_andi_all _ _ _ _ _ h3 i)⟩

end Cert.Pre_finite
-- ==== Proof.lean ====
/- The claims of the certificate, each from its own theorem. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.KernelIdeal.Value
public import proofs.«01_k».proof.Proof.Gen.ReferenceIdeal.Run
public import proofs.«01_k».proof.Proof.Gen.FfnIdeal.Value
public import proofs.«01_k».proof.Proof.Gen.FfnReferenceIdeal.Run
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixReferenceIdeal
public import proofs.«01_k».proof.Proof.Gen.MixIdeal.Value
public import proofs.«01_k».proof.Proof.Gen.MixReferenceIdeal.Run
public import proofs.«01_k».proof.Proof.FfnValue
public import proofs.«01_k».proof.Proof.MixValue
public import proofs.«01_k».proof.Proof.AttnRef
public import proofs.«01_k».proof.Proof.AttnValue
public import proofs.«01_k».proof.Proof.AttnPre
public import Idealize.ShloMosaic.Lib.Claim
public import Idealize.ShloMosaic.Adequacy
public import Idealize.ShloMosaic.Init

@[expose] public section

noncomputable section

namespace Cert.Proof

open Idealize.ShloMosaic Idealize.SL.Sem

/-- The attention program leaves its arguments as they were and its counters at zero, on bits. -/
theorem attn_frame : Cert.quiescent_Kernel := fun m g _ => Cert.Kernel.Gen.frame m g

/-- The same of the attention program on extended reals. -/
theorem attn_ideal_frame : Cert.quiescent_KernelIdeal := fun m g _ => Cert.KernelIdeal.Gen.frame m g

/-- The attention's reference leaves its arguments as they were; it declares no semaphore. -/
theorem attn_reference_frame : Cert.quiescent_ReferenceIdeal := by
  intro m g _
  exact (θ_run Cert.ReferenceIdeal.defs _ _).mono
    (fun r h => ⟨fun c => (h c).2, sem_eq_zero_of_no_sems (by decide) r.2⟩)
    (Cert.ReferenceIdeal.Value.run (F := Ideal) m g)

/-- The attention program's frame, claimed again where its queries, keys and sinks are finite. -/
theorem attn_ideal_frame_finite : Cert.quiescent_KernelIdeal_pre_finite := fun m g _ => Cert.KernelIdeal.Gen.frame m g

/-- The reference's frame, claimed again where its queries, keys and sinks are finite. -/
theorem attn_reference_frame_finite : Cert.quiescent_ReferenceIdeal_pre_finite := fun m g _ => attn_reference_frame m g trivial

/-- The feed-forward program leaves its arguments as they were and its counters at zero, on bits. -/
theorem ffn_frame : Cert.quiescent_Ffn := fun m g _ => Cert.Ffn.Gen.frame m g

/-- The same of the feed-forward program on extended reals. -/
theorem ffn_ideal_frame : Cert.quiescent_FfnIdeal := fun m g _ => Cert.FfnIdeal.Gen.frame m g

/-- The feed-forward reference leaves its arguments as they were; it declares no semaphore. -/
theorem ffn_reference_frame : Cert.quiescent_FfnReferenceIdeal := by
  intro m g _
  exact (θ_run Cert.FfnReferenceIdeal.defs _ _).mono
    (fun r h => ⟨fun c => (h c).2, sem_eq_zero_of_no_sems (by decide) r.2⟩)
    (Cert.FfnReferenceIdeal.Value.run (F := Ideal) m g)

/-- The two named constants of the attention kernel are the numbers they stand for. -/
theorem attn_preserves : Cert.preserves_Kernel_KernelIdeal :=
  ⟨IdealRules.named_const.statement Cert.KernelIdeal.κ "qscale" .f32 _ _ rfl,
    IdealRules.named_const.statement Cert.KernelIdeal.κ "log2e" .f32 _ _ rfl⟩

/-- The attention kernel and the plain windowed softmax attention give the same extended reals, where the queries, the
keys and the sinks are finite. -/
theorem attn_algebraic : Cert.algebraic_KernelIdeal_ReferenceIdeal_pre_finite := by
  pair_intro
  · run_from Cert.KernelIdeal.Gen.run_main m g
    exacts [Cert.KernelIdeal.Gen.V_main_arg0 m c, Cert.KernelIdeal.Gen.V_main_arg1 m c, Cert.KernelIdeal.Gen.V_main_arg2 m c,
      Cert.KernelIdeal.Gen.V_main_arg3 m c]
  · run_from Cert.ReferenceIdeal.Value.run m' g'
    obtain ⟨hQ, hK, hS⟩ := Cert.Pre_finite.reals _ _ _ _ (hpre c)
    rw [Cert.KernelIdeal.Value.final m c hQ hK hS, Cert.ReferenceIdeal.Value.res_eq, (hagree c).1, (hagree c).2.1, (hagree c).2.2.1, (hagree c).2.2.2]

/-- The feed-forward kernel and the plain feed-forward formula give the same extended reals. -/
theorem ffn_algebraic : Cert.algebraic_FfnIdeal_FfnReferenceIdeal := by
  pair_intro
  · run_from Cert.FfnIdeal.Gen.run_main m g
  · run_from Cert.FfnReferenceIdeal.Value.run m' g'
    rw [Cert.FfnIdeal.Value.final, Cert.FfnIdeal.Value.res_eq, (hagree c).1, (hagree c).2.1, (hagree c).2.2.1, (hagree c).2.2.2]

/-- The mixing program leaves its arguments as they were and its counters at zero, on bits. -/
theorem mix_frame : Cert.quiescent_Mix := fun m g _ => Cert.Mix.Gen.frame m g

/-- The same of the mixing program on extended reals. -/
theorem mix_ideal_frame : Cert.quiescent_MixIdeal := fun m g _ => Cert.MixIdeal.Gen.frame m g

/-- The mixing reference leaves its arguments as they were; it declares no semaphore. -/
theorem mix_reference_frame : Cert.quiescent_MixReferenceIdeal := by
  intro m g _
  exact (θ_run Cert.MixReferenceIdeal.defs _ _).mono
    (fun r h => ⟨fun c => (h c).2, sem_eq_zero_of_no_sems (by decide) r.2⟩)
    (Cert.MixReferenceIdeal.Value.run (F := Ideal) m g)

/-- The mixing kernel and the plain gated sum of the two mixers give the same extended reals. -/
theorem mix_algebraic : Cert.algebraic_MixIdeal_MixReferenceIdeal := by
  pair_intro
  · run_from Cert.MixIdeal.Gen.run_main m g
    exacts [Cert.MixIdeal.Gen.V_main_arg0 m c, Cert.MixIdeal.Gen.V_main_arg1 m c, Cert.MixIdeal.Gen.V_main_arg2 m c, Cert.MixIdeal.Gen.V_main_arg3 m c,
      Cert.MixIdeal.Gen.V_main_arg4 m c, Cert.MixIdeal.Gen.V_main_arg5 m c, Cert.MixIdeal.Gen.V_main_arg6 m c, Cert.MixIdeal.Gen.V_main_arg7 m c]
  · run_from Cert.MixReferenceIdeal.Value.run m' g'
    obtain ⟨e0, e1, e2, e3, e4, e5, e6, e7⟩ := hagree c
    rw [Cert.MixIdeal.Value.final, Cert.MixIdeal.Value.res_eq, e0, e1, e2, e3, e4, e5, e6, e7]

/-- Every claim of the certificate. -/
theorem claim : Cert.Claim := ⟨Cert.Kernel.Gen.facts, Cert.KernelIdeal.Gen.facts, Cert.ReferenceIdeal.Gen.facts, Cert.Ffn.Gen.facts, Cert.FfnIdeal.Gen.facts, Cert.FfnReferenceIdeal.Gen.facts, Cert.Mix.Gen.facts, Cert.MixIdeal.Gen.facts, Cert.MixReferenceIdeal.Gen.facts, Cert.Pre_finite.facts,
  attn_frame, attn_ideal_frame, attn_ideal_frame_finite, attn_reference_frame, attn_reference_frame_finite, ffn_frame, ffn_ideal_frame, ffn_reference_frame, mix_frame, mix_ideal_frame, mix_reference_frame,
  attn_preserves, attn_algebraic, trivial, ffn_algebraic, trivial, mix_algebraic⟩

end Cert.Proof
